-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S640x1x6144 : Shape := ⟨3, ![640, 1, 6144]⟩
abbrev S768x32768 : Shape := ⟨2, ![768, 32768]⟩
abbrev S48x32768 : Shape := ⟨2, ![48, 32768]⟩
abbrev S640x6144 : Shape := ⟨2, ![640, 6144]⟩
abbrev S1x640 : Shape := ⟨2, ![1, 640]⟩
abbrev S640x64x4x128 : Shape := ⟨4, ![640, 64, 4, 128]⟩
abbrev S768x512 : Shape := ⟨2, ![768, 512]⟩
abbrev S48x512 : Shape := ⟨2, ![48, 512]⟩
abbrev S640x1x4x128 : Shape := ⟨4, ![640, 1, 4, 128]⟩
abbrev S6144x512 : Shape := ⟨2, ![6144, 512]⟩
abbrev S640x128 : Shape := ⟨2, ![640, 128]⟩
abbrev S16x512 : Shape := ⟨2, ![16, 512]⟩
abbrev S16x8x512 : Shape := ⟨3, ![16, 8, 512]⟩
abbrev S16x1x512 : Shape := ⟨3, ![16, 1, 512]⟩
abbrev S128x512 : Shape := ⟨2, ![128, 512]⟩
abbrev S1x512 : Shape := ⟨2, ![1, 512]⟩
abbrev S640x512 : Shape := ⟨2, ![640, 512]⟩
abbrev S2560x128 : Shape := ⟨2, ![2560, 128]⟩
abbrev S128x640 : Shape := ⟨2, ![128, 640]⟩
abbrev S640 : Shape := ⟨1, ![640]⟩
abbrev S640x1 : Shape := ⟨2, ![640, 1]⟩
abbrev S640x1x32768 : Shape := ⟨3, ![640, 1, 32768]⟩

abbrev nBuf : Space → Nat
  | .hbm => 12
  | .vmem => 14
  | .smem => 0
  | _ => 0

abbrev bufTy : (tb : Table) → Fin (tcTables nBuf tb) → BufTy
  | .hbm, ⟨0, _⟩ => ⟨S640x1x6144, .bf16⟩
  | .hbm, ⟨1, _⟩ => ⟨S768x32768, .i32⟩
  | .hbm, ⟨2, _⟩ => ⟨S48x32768, .bf16⟩
  | .hbm, ⟨3, _⟩ => ⟨S640x6144, .bf16⟩
  | .hbm, ⟨4, _⟩ => ⟨S1x640, .i32⟩
  | .hbm, ⟨5, _⟩ => ⟨S1x640, .f32⟩
  | .hbm, ⟨6, _⟩ => ⟨S1x640, .f32⟩
  | .hbm, ⟨7, _⟩ => ⟨S640x64x4x128, .f32⟩
  | .hbm, ⟨8, _⟩ => ⟨S640x1, .i32⟩
  | .hbm, ⟨9, _⟩ => ⟨S640x1, .f32⟩
  | .hbm, ⟨10, _⟩ => ⟨S640x1, .f32⟩
  | .hbm, ⟨11, _⟩ => ⟨S640x1x32768, .f32⟩
  | .local _ .vmem, ⟨0, _⟩ => ⟨S640x6144, .bf16⟩
  | .local _ .vmem, ⟨1, _⟩ => ⟨S768x512, .i32⟩
  | .local _ .vmem, ⟨2, _⟩ => ⟨S768x512, .i32⟩
  | .local _ .vmem, ⟨3, _⟩ => ⟨S48x512, .bf16⟩
  | .local _ .vmem, ⟨4, _⟩ => ⟨S48x512, .bf16⟩
  | .local _ .vmem, ⟨5, _⟩ => ⟨S1x640, .i32⟩
  | .local _ .vmem, ⟨6, _⟩ => ⟨S1x640, .f32⟩
  | .local _ .vmem, ⟨7, _⟩ => ⟨S1x640, .f32⟩
  | .local _ .vmem, ⟨8, _⟩ => ⟨S640x1x4x128, .f32⟩
  | .local _ .vmem, ⟨9, _⟩ => ⟨S640x1x4x128, .f32⟩
  | .local _ .vmem, ⟨10, _⟩ => ⟨S6144x512, .bf16⟩
  | .local _ .vmem, ⟨11, _⟩ => ⟨S640x128, .f32⟩
  | .local _ .vmem, ⟨12, _⟩ => ⟨S640x128, .f32⟩
  | .local _ .vmem, ⟨13, _⟩ => ⟨S640x128, .i32⟩
  | _, _ => ⟨S640x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v979 : BitVec 1 := Scalar.cmpi .eq arg0 c63_i32
  let v980 : BitVec 32 := Scalar.extui v979
  let c0_i32_277 : BitVec 32 := 0#32
  let v981 : BitVec 1 := Scalar.cmpi .ne v980 c0_i32_277
  v981

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S640x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x640 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S640x1x6144 : Shape := ⟨3, ![640, 1, 6144]⟩
abbrev S768x32768 : Shape := ⟨2, ![768, 32768]⟩
abbrev S48x32768 : Shape := ⟨2, ![48, 32768]⟩
abbrev S8 : Shape := ⟨1, ![8]⟩
abbrev S_ : Shape := ⟨0, ![]⟩
abbrev S1x768x32768 : Shape := ⟨3, ![1, 768, 32768]⟩
abbrev S8x1x1 : Shape := ⟨3, ![8, 1, 1]⟩
abbrev S8x768x32768 : Shape := ⟨3, ![8, 768, 32768]⟩
abbrev S8x48x16x32768 : Shape := ⟨4, ![8, 48, 16, 32768]⟩
abbrev S1x48x1x32768 : Shape := ⟨4, ![1, 48, 1, 32768]⟩
abbrev S6144x32768 : Shape := ⟨2, ![6144, 32768]⟩
abbrev S640x1x768x8 : Shape := ⟨4, ![640, 1, 768, 8]⟩
abbrev S640x1x8x768 : Shape := ⟨4, ![640, 1, 8, 768]⟩
abbrev S640x1x32768 : Shape := ⟨3, ![640, 1, 32768]⟩
abbrev S640x1 : Shape := ⟨2, ![640, 1]⟩
abbrev S32768 : Shape := ⟨1, ![32768]⟩
abbrev S640x1x1 : Shape := ⟨3, ![640, 1, 1]⟩
abbrev S1x1x32768 : Shape := ⟨3, ![1, 1, 32768]⟩

abbrev nBuf : Space → Nat
  | .hbm => 48
  | .vmem => 0
  | .smem => 0
  | _ => 0

abbrev bufTy : (tb : Table) → Fin (tcTables nBuf tb) → BufTy
  | .hbm, ⟨0, _⟩ => ⟨S640x1x6144, .bf16⟩
  | .hbm, ⟨1, _⟩ => ⟨S768x32768, .i32⟩
  | .hbm, ⟨2, _⟩ => ⟨S48x32768, .bf16⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x768x32768, .i32⟩
  | .hbm, ⟨8, _⟩ => ⟨S8x1x1, .i32⟩
  | .hbm, ⟨9, _⟩ => ⟨S8x768x32768, .i32⟩
  | .hbm, ⟨10, _⟩ => ⟨S8x768x32768, .i32⟩
  | .hbm, ⟨11, _⟩ => ⟨S8x768x32768, .i32⟩
  | .hbm, ⟨12, _⟩ => ⟨S_, .i32⟩
  | .hbm, ⟨13, _⟩ => ⟨S8x768x32768, .i32⟩
  | .hbm, ⟨14, _⟩ => ⟨S8x768x32768, .i32⟩
  | .hbm, ⟨15, _⟩ => ⟨S8x48x16x32768, .i32⟩
  | .hbm, ⟨16, _⟩ => ⟨S8x48x16x32768, .bf16⟩
  | .hbm, ⟨17, _⟩ => ⟨S_, .bf16⟩
  | .hbm, ⟨18, _⟩ => ⟨S8x48x16x32768, .bf16⟩
  | .hbm, ⟨19, _⟩ => ⟨S8x48x16x32768, .bf16⟩
  | .hbm, ⟨20, _⟩ => ⟨S1x48x1x32768, .bf16⟩
  | .hbm, ⟨21, _⟩ => ⟨S8x48x16x32768, .bf16⟩
  | .hbm, ⟨22, _⟩ => ⟨S8x48x16x32768, .bf16⟩
  | .hbm, ⟨23, _⟩ => ⟨S6144x32768, .bf16⟩
  | .hbm, ⟨24, _⟩ => ⟨S640x1x768x8, .bf16⟩
  | .hbm, ⟨25, _⟩ => ⟨S640x1x8x768, .bf16⟩
  | .hbm, ⟨26, _⟩ => ⟨S640x1x6144, .bf16⟩
  | .hbm, ⟨27, _⟩ => ⟨S640x1x32768, .f32⟩
  | .hbm, ⟨28, _⟩ => ⟨S640x1x32768, .i32⟩
  | .hbm, ⟨29, _⟩ => ⟨S_, .f32⟩
  | .hbm, ⟨30, _⟩ => ⟨S_, .i32⟩
  | .hbm, ⟨31, _⟩ => ⟨S640x1, .f32⟩
  | .hbm, ⟨32, _⟩ => ⟨S640x1, .i32⟩
  | .hbm, ⟨33, _⟩ => ⟨S_, .f32⟩
  | .hbm, ⟨34, _⟩ => ⟨S640x1, .f32⟩
  | .hbm, ⟨35, _⟩ => ⟨S32768, .i32⟩
  | .hbm, ⟨36, _⟩ => ⟨S640x1x1, .i32⟩
  | .hbm, ⟨37, _⟩ => ⟨S1x1x32768, .i32⟩
  | .hbm, ⟨38, _⟩ => ⟨S640x1x32768, .i32⟩
  | .hbm, ⟨39, _⟩ => ⟨S640x1x32768, .i32⟩
  | .hbm, ⟨40, _⟩ => ⟨S640x1x32768, .i1⟩
  | .hbm, ⟨41, _⟩ => ⟨S_, .f32⟩
  | .hbm, ⟨42, _⟩ => ⟨S_, .f32⟩
  | .hbm, ⟨43, _⟩ => ⟨S640x1x32768, .f32⟩
  | .hbm, ⟨44, _⟩ => ⟨S640x1x32768, .f32⟩
  | .hbm, ⟨45, _⟩ => ⟨S_, .f32⟩
  | .hbm, ⟨46, _⟩ => ⟨S640x1, .f32⟩
  | .hbm, ⟨47, _⟩ => ⟨S640x1, .f32⟩
  | _, _ => ⟨S640x1x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_cst : Ref sig .tc := ⟨.hbm, 29, rfl⟩
abbrev main_call0_c : Ref sig .tc := ⟨.hbm, 30, rfl⟩
abbrev main_call0_v1_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Proof.BitsCases.lean ====
/-
  The body's three cases over the grid (first point, middle points, last point), the windows' idle points, and the
  staging and scratch memrefs the runs are stated over.
-/
module

public import proofs.«01_k».proof.Proof.Gen.Kernel.Skeleton
public import proofs.«01_k».proof.Proof.Gen.Kernel.Frame
public import Idealize.ShloMosaic.Lib.Pointwise.Index
public import Idealize.ShloMosaic.Lib.VecWindow
public import Idealize.ShloMosaic.Lib.WholeRead

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 3 idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cfg0.idle 3 (grid0.coords t) = false := by decide +kernel
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 3, through which its contents are stated (`View.read_writes_of_cover`: the
    choice does not matter). -/
abbrev VO0_3 : View sig .tc .vmem S1x640 .i32 := (Memref.whole cc0_stg3_0 : Memref sig .tc .vmem S1x640 .i32).view
/-- One staging buffer of output window 4, through which its contents are stated (`View.read_writes_of_cover`: the
    choice does not matter). -/
abbrev VO0_4 : View sig .tc .vmem S1x640 .f32 := (Memref.whole cc0_stg4_0 : Memref sig .tc .vmem S1x640 .f32).view
/-- One staging buffer of output window 5, through which its contents are stated (`View.read_writes_of_cover`: the
    choice does not matter). -/
abbrev VO0_5 : View sig .tc .vmem S1x640 .f32 := (Memref.whole cc0_stg5_0 : Memref sig .tc .vmem S1x640 .f32).view
/-- One staging buffer of output window 6, through which its contents are stated (`View.read_writes_of_cover`: the
    choice does not matter). -/
abbrev VO0_6 : View sig .tc .vmem S640x1x4x128 .f32 := (Memref.whole cc0_stg6_0 : Memref sig .tc .vmem S640x1x4x128 .f32).view
/-- Each window's current staging memref at point `t`, spelled as the pipeline passes it (`bodyAt0`), and its wholeness. -/
abbrev ms0_0 (t : Fin cfg0.N) : Memref sig .tc .vmem S640x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x640 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x1x4x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S6144x512 .bf16 := Memref.whole cc0_scratch0
abbrev scM0_1 : Memref sig .tc .vmem S640x128 .f32 := Memref.whole cc0_scratch1
abbrev scM0_2 : Memref sig .tc .vmem S640x128 .f32 := Memref.whole cc0_scratch2
abbrev scM0_3 : Memref sig .tc .vmem S640x128 .i32 := Memref.whole cc0_scratch3
/-- The scratch `arg9` the kernel carries between points, as a view: what it holds is stated through it. -/
abbrev VS0_1 : View sig .tc .vmem S640x128 .f32 := scM0_1.view
/-- The scratch `arg10` the kernel carries between points, as a view: what it holds is stated through it. -/
abbrev VS0_2 : View sig .tc .vmem S640x128 .f32 := scM0_2.view
/-- The scratch `arg11` the kernel carries between points, as a view: what it holds is stated through it. -/
abbrev VS0_3 : View sig .tc .vmem S640x128 .i32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What one grid point computes -/

/-- The 128 dequantised rows of one scale group: the int4 rows of its 16 rows of words, times its row of scales. -/
def slab (v3 : Vec F S16x512 .i32) (v16 : Vec F S1x512 .bf16) : FVec F S128x512 .bf16 := k0_pay12 v3 v16

theorem rows16_inb (n : ℕ) (h : n + 1 ≤ 48) : ∀ a, (![16 * n, 0] : Fin 2 → ℕ) a + S16x512.size a ≤ S768x512.size a := by
  intro a; fin_cases a
  · show 16 * n + 16 ≤ 768; omega
  · show 0 + 512 ≤ 512; omega
theorem row1_inb (n : ℕ) (h : n + 1 ≤ 48) : ∀ a, (![n, 0] : Fin 2 → ℕ) a + S1x512.size a ≤ S48x512.size a := by
  intro a; fin_cases a
  · show n + 1 ≤ 48; omega
  · show 0 + 512 ≤ 512; omega
theorem rows128_inb (n : ℕ) (h : n + 1 ≤ 48) : ∀ a, (![128 * n, 0] : Fin 2 → ℕ) a + S128x512.size a ≤ S6144x512.size a := by
  intro a; fin_cases a
  · show 128 * n + 128 ≤ 6144; omega
  · show 0 + 512 ≤ 512; omega

/-- Group `n`'s 16 rows of words. -/
def rows16 (x1 : Vec F S768x512 .i32) (n : ℕ) (h : n + 1 ≤ 48) : Vec F S16x512 .i32 :=
  fun z => x1 ((Rect.unit (s := S768x512) ![16 * n, 0] S16x512.size (rows16_inb n h)).toLoadRect.idx z)
/-- Group `n`'s row of scales. -/
def row1 (x2 : Vec F S48x512 .bf16) (n : ℕ) (h : n + 1 ≤ 48) : Vec F S1x512 .bf16 :=
  fun z => x2 ((Rect.unit (s := S48x512) ![n, 0] S1x512.size (row1_inb n h)).toLoadRect.idx z)

/-- The stores of the first `n` groups into the weight scratch, last first. -/
def slabs (arg2 : Memref sig .tc .vmem S768x512 .i32) (harg2 : arg2.IsWhole) (arg3 : Memref sig .tc .vmem S48x512 .bf16) (harg3 : arg3.IsWhole)
    (x1 : Vec F S768x512 .i32) (x2 : Vec F S48x512 .bf16) : (n : ℕ) → n ≤ 48 → List (View.Piece (Elt F) S6144x512 .bf16)
  | 0, _ => []
  | n + 1, h => ⟨Rect.unit (s := S6144x512) ![128 * n, 0] S128x512.size (rows128_inb n h),
      slab (View.readAt (Elt F) arg2.view (Rect.unit (s := S768x512) ![16 * n, 0] S16x512.size (rows16_inb n h)).toLoadRect (harg2.unread x1))
        (View.readAt (Elt F) arg3.view (Rect.unit (s := S48x512) ![n, 0] S1x512.size (row1_inb n h)).toLoadRect (harg3.unread x2))⟩
      :: slabs arg2 harg2 arg3 harg3 x1 x2 n (Nat.le_of_succ_le h)

/-- The block of weights of one point: row `d` is row `d % 128` of group `d / 128`. -/
def wblk (x1 : Vec F S768x512 .i32) (x2 : Vec F S48x512 .bf16) : Vec F S6144x512 .bf16 := fun y =>
  have h : (y 0).val / 128 + 1 ≤ 48 := by have h : (y 0).val < 6144 := (y 0).isLt; omega
  slab (rows16 x1 ((y 0).val / 128) h) (row1 x2 ((y 0).val / 128) h) (ix2 ⟨(y 0).val % 128, Nat.mod_lt _ (by decide)⟩ (y 1))

theorem slabs_pieces (arg2 : Memref sig .tc .vmem S768x512 .i32) (harg2 : arg2.IsWhole) (arg3 : Memref sig .tc .vmem S48x512 .bf16) (harg3 : arg3.IsWhole)
    (x1 : Vec F S768x512 .i32) (x2 : Vec F S48x512 .bf16) : ∀ (n : ℕ) (hn : n ≤ 48), ∀ p ∈ slabs arg2 harg2 arg3 harg3 x1 x2 n hn,
      ∀ x : p.1.shape.Idx, p.2 x = wblk x1 x2 (p.1.emb x)
  | 0, _, p, hp, _ => absurd hp List.not_mem_nil
  | n + 1, h, p, hp, x => by
    rcases List.mem_cons.mp hp with rfl | hp
    · have e0 : ((Rect.unit (s := S6144x512) ![128 * n, 0] S128x512.size (rows128_inb n h)).emb x 0).val = 128 * n + 1 * (x 0).val := rfl
      have e1 : ((Rect.unit (s := S6144x512) ![128 * n, 0] S128x512.size (rows128_inb n h)).emb x 1).val = 0 + 1 * (x 1).val := rfl
      have hx0 : (x 0).val < 128 := (x 0).isLt
      have hd : ((Rect.unit (s := S6144x512) ![128 * n, 0] S128x512.size (rows128_inb n h)).emb x 0).val / 128 = n := by rw [e0]; omega
      have hm : ((Rect.unit (s := S6144x512) ![128 * n, 0] S128x512.size (rows128_inb n h)).emb x 0).val % 128 = (x 0).val := by rw [e0]; omega
      have h2 : View.readAt (Elt F) arg2.view (Rect.unit (s := S768x512) ![16 * n, 0] S16x512.size (rows16_inb n h)).toLoadRect (harg2.unread x1)
          = rows16 x1 n h := funext fun z => harg2.readAt_unread x1 _ z
      have h3 : View.readAt (Elt F) arg3.view (Rect.unit (s := S48x512) ![n, 0] S1x512.size (row1_inb n h)).toLoadRect (harg3.unread x2)
          = row1 x2 n h := funext fun z => harg3.readAt_unread x2 _ z
      show slab (View.readAt (Elt F) arg2.view (Rect.unit (s := S768x512) ![16 * n, 0] S16x512.size (rows16_inb n h)).toLoadRect (harg2.unread x1))
        (View.readAt (Elt F) arg3.view (Rect.unit (s := S48x512) ![n, 0] S1x512.size (row1_inb n h)).toLoadRect (harg3.unread x2)) x = _
      rw [h2, h3]
      unfold wblk
      have key : ∀ (k : ℕ) (hk : k + 1 ≤ 48) (e : k = n) (z : S128x512.Idx), z = x → slab (rows16 x1 n h) (row1 x2 n h) x = slab (rows16 x1 k hk) (row1 x2 k hk) z := by
        rintro k hk rfl z rfl; rfl
      refine key _ _ hd _ ?_
      funext a; fin_cases a
      · exact Fin.ext hm
      · exact Fin.ext (e1.trans ((Nat.zero_add _).trans (Nat.one_mul _)))
    · exact slabs_pieces arg2 harg2 arg3 harg3 x1 x2 n _ p hp x

theorem slabs_cover (arg2 : Memref sig .tc .vmem S768x512 .i32) (harg2 : arg2.IsWhole) (arg3 : Memref sig .tc .vmem S48x512 .bf16) (harg3 : arg3.IsWhole)
    (x1 : Vec F S768x512 .i32) (x2 : Vec F S48x512 .bf16) (y : S6144x512.Idx) : ∀ (n : ℕ) (hn : n ≤ 48), (y 0).val < 128 * n →
      ∃ p ∈ slabs arg2 harg2 arg3 harg3 x1 x2 n hn, y ∈ p.1.set
  | 0, _, hy => by omega
  | n + 1, h, hy => by
    by_cases hlt : (y 0).val < 128 * n
    · obtain ⟨p, hp, hm⟩ := slabs_cover arg2 harg2 arg3 harg3 x1 x2 y n (Nat.le_of_succ_le h) hlt
      exact ⟨p, List.mem_cons_of_mem _ hp, hm⟩
    · refine ⟨_, List.mem_cons_self, ?_⟩
      refine (Rect.mem_set_unit (inb := rows128_inb n h)).mpr fun a => ?_
      fin_cases a
      · show 128 * n ≤ (y 0).val ∧ (y 0).val < 128 * n + 128; omega
      · have : (y 1).val < 512 := (y 1).isLt
        show 0 ≤ (y 1).val ∧ (y 1).val < 0 + 512; omega

/-- The whole scratch after the 48 stores, loaded back, is the block of weights. -/
theorem slabs_read (arg8 : Memref sig .tc .vmem S6144x512 .bf16)
    (arg2 : Memref sig .tc .vmem S768x512 .i32) (harg2 : arg2.IsWhole) (arg3 : Memref sig .tc .vmem S48x512 .bf16) (harg3 : arg3.IsWhole)
    (x1 : Vec F S768x512 .i32) (x2 : Vec F S48x512 .bf16) (inb : ∀ a, (![0, 0] : Fin 2 → ℕ) a + S6144x512.size a ≤ S6144x512.size a) :
    arg8.view.readCov (slabs arg2 harg2 arg3 harg3 x1 x2 48 le_rfl) (Rect.unit (s := S6144x512) ![0, 0] S6144x512.size inb).toLoadRect = wblk x1 x2 := by
  unfold View.readCov
  rw [View.readAt_full]
  funext y
  exact View.read_writes_apply_of_pieces _ _ _ _ (slabs_pieces arg2 harg2 arg3 harg3 x1 x2 48 le_rfl) y
    (slabs_cover arg2 harg2 arg3 harg3 x1 x2 y 48 le_rfl (y 0).isLt)

/-- The point's block of logits. -/
def acc (x0 : Vec F S640x6144 .bf16) (x1 : Vec F S768x512 .i32) (x2 : Vec F S48x512 .bf16) : FVec F S640x512 .f32 := k0_pay85 x0 (wblk x1 x2)
/-- The running largest value of each lane, after a block of logits. -/
def st1 (a : FVec F S640x512 .f32) (s1 : Vec F S640x128 .f32) : Vec F S640x128 .f32 := k0_pay1 (k0_pay99 a s1)
/-- The running second largest value of each lane. -/
def st2 (a : FVec F S640x512 .f32) (s1 s2 : Vec F S640x128 .f32) : Vec F S640x128 .f32 := k0_pay2 (k0_pay97 a s1 s2)
/-- The column block where each lane first met its largest value. -/
def st3 (i : grid0.Coords) (a : FVec F S640x512 .f32) (s1 : Vec F S640x128 .f32) (s3 : Vec F S640x128 .i32) : Vec F S640x128 .i32 :=
  k0_pay3 (k0_pay98 (BitVec.ofNat 32 (i 0).val) a s1 s3)
/-- The block of logits as the output's rows, four to a batch row. -/
def lgR (a : FVec F S640x512 .f32) : Vec F S2560x128 .f32 := fun z =>
  a (ix2 ⟨(z 0).val / 4, by have h : (z 0).val < 2560 := (z 0).isLt; omega⟩
    ⟨(z 0).val % 4 * 128 + (z 1).val, by have h : (z 1).val < 128 := (z 1).isLt; omega⟩)
/-- The block of logits as the output's block. -/
def lgB (a : FVec F S640x512 .f32) : Vec F S640x1x4x128 .f32 := fun y =>
  a (ix2 (y 0) ⟨(y 2).val * 128 + (y 3).val, by have h : (y 2).val < 4 := (y 2).isLt; have h' : (y 3).val < 128 := (y 3).isLt; omega⟩)

/-- The output buffer as the body stores into it. -/
abbrev outR (arg7 : Memref sig .tc .vmem S640x1x4x128 .f32) (harg7 : arg7.IsWhole) : Memref sig .tc .vmem S2560x128 .f32 :=
  arg7.reshape S2560x128 reshapes_S640x1x4x128_S2560x128.1 reshapes_S640x1x4x128_S2560x128.2 harg7.contiguous

/-- Column strip `c` of the logits, stored at rows `4 r + c`, agrees with the output's rows. -/
theorem strip_piece (a : FVec F S640x512 .f32) (c o : ℕ) (hc : c < 4) (ho : o = 128 * c)
    (inb : ∀ b, S640x128.size b = 0 ∨ (![c, 0] : Fin 2 → ℕ) b + (![4, 1] : Fin 2 → ℕ) b * (S640x128.size b - 1) < S2560x128.size b) (sp : ∀ b, 0 < (![4, 1] : Fin 2 → ℕ) b)
    (h : Shape.Slices S640x512 ![0, o] S640x128) (x : S640x128.Idx) :
    extractStridedSlice S640x128 ![0, o] a h x = lgR a ((⟨(⟨![c, 0], S640x128.size, ![4, 1], inb⟩ : LoadRect S2560x128), sp⟩ : Rect S2560x128).emb x) := by
  subst ho
  have hx0 : (x 0).val < 640 := (x 0).isLt
  have hx1 : (x 1).val < 128 := (x 1).isLt
  unfold lgR
  refine congrArg a ?_
  have e0 : ((⟨(⟨![c, 0], S640x128.size, ![4, 1], inb⟩ : LoadRect S2560x128), sp⟩ : Rect S2560x128).emb x 0).val = c + 4 * (x 0).val := rfl
  have e1 : ((⟨(⟨![c, 0], S640x128.size, ![4, 1], inb⟩ : LoadRect S2560x128), sp⟩ : Rect S2560x128).emb x 1).val = 0 + 1 * (x 1).val := rfl
  funext b; fin_cases b
  · refine Fin.ext ?_
    show 0 + (x 0).val = ((⟨(⟨![c, 0], S640x128.size, ![4, 1], inb⟩ : LoadRect S2560x128), sp⟩ : Rect S2560x128).emb x 0).val / 4
    rw [e0]; omega
  · refine Fin.ext ?_
    show 128 * c + (x 1).val = ((⟨(⟨![c, 0], S640x128.size, ![4, 1], inb⟩ : LoadRect S2560x128), sp⟩ : Rect S2560x128).emb x 0).val % 4 * 128
      + ((⟨(⟨![c, 0], S640x128.size, ![4, 1], inb⟩ : LoadRect S2560x128), sp⟩ : Rect S2560x128).emb x 1).val
    rw [e0, e1]; omega

/-- The four strided stores cover the output's rows and leave the block of logits there. -/
theorem lgR_read (v : View sig .tc .vmem S2560x128 .f32) (f : v.ty.Contents (Elt F)) (x0 : Vec F S640x6144 .bf16) (w : Vec F S6144x512 .bf16) :
    v.read (Elt F) (v.writes (Elt F) f
      [⟨⟨(⟨![3, 0], S640x128.size, ![4, 1], inb_S2560x128_S640x128_3_0_s_4_1⟩ : LoadRect S2560x128), spos_4_1⟩, k0_pay89 x0 w⟩,
       ⟨⟨(⟨![2, 0], S640x128.size, ![4, 1], inb_S2560x128_S640x128_2_0_s_4_1⟩ : LoadRect S2560x128), spos_4_1⟩, k0_pay88 x0 w⟩,
       ⟨⟨(⟨![1, 0], S640x128.size, ![4, 1], inb_S2560x128_S640x128_1_0_s_4_1⟩ : LoadRect S2560x128), spos_4_1⟩, k0_pay87 x0 w⟩,
       ⟨⟨(⟨![0, 0], S640x128.size, ![4, 1], inb_S2560x128_S640x128_0_0_s_4_1⟩ : LoadRect S2560x128), spos_4_1⟩, k0_pay86 x0 w⟩]) = lgR (k0_pay85 x0 w) := by
  funext y
  refine View.read_writes_apply_of_pieces _ _ _ _ ?_ y ?_
  · intro p hp x
    simp only [List.mem_cons, List.mem_nil_iff, or_false] at hp
    rcases hp with rfl | rfl | rfl | rfl
    · exact strip_piece _ 3 384 (by omega) rfl inb_S2560x128_S640x128_3_0_s_4_1 spos_4_1 slices_S640x512_o0_384_S640x128 x
    · exact strip_piece _ 2 256 (by omega) rfl inb_S2560x128_S640x128_2_0_s_4_1 spos_4_1 slices_S640x512_o0_256_S640x128 x
    · exact strip_piece _ 1 128 (by omega) rfl inb_S2560x128_S640x128_1_0_s_4_1 spos_4_1 slices_S640x512_o0_128_S640x128 x
    · exact strip_piece _ 0 0 (by omega) rfl inb_S2560x128_S640x128_0_0_s_4_1 spos_4_1 slices_S640x512_o0_0_S640x128 x
  · have hy0 : (y 0).val < 2560 := (y 0).isLt
    have hy1 : (y 1).val < 128 := (y 1).isLt
    have key : ∀ (c : ℕ) (inb : ∀ b, S640x128.size b = 0 ∨ (![c, 0] : Fin 2 → ℕ) b + (![4, 1] : Fin 2 → ℕ) b * (S640x128.size b - 1) < S2560x128.size b), (y 0).val % 4 = c →
        y ∈ (⟨(⟨![c, 0], S640x128.size, ![4, 1], inb⟩ : LoadRect S2560x128), spos_4_1⟩ : Rect S2560x128).set := fun c inb hc => by
      refine (LoadRect.mem_set _).mpr fun b => ?_
      fin_cases b
      · exact ⟨(y 0).val / 4, by show _ < 640; omega, by show (y 0).val = c + 4 * ((y 0).val / 4); omega⟩
      · exact ⟨(y 1).val, hy1, by show (y 1).val = 0 + 1 * (y 1).val; omega⟩
    have h4 : (y 0).val % 4 = 3 ∨ (y 0).val % 4 = 2 ∨ (y 0).val % 4 = 1 ∨ (y 0).val % 4 = 0 := by omega
    rcases h4 with h | h | h | h
    · exact ⟨_, List.mem_cons_self, key 3 _ h⟩
    · exact ⟨_, List.mem_cons_of_mem _ List.mem_cons_self, key 2 _ h⟩
    · exact ⟨_, List.mem_cons_of_mem _ (List.mem_cons_of_mem _ List.mem_cons_self), key 1 _ h⟩
    · exact ⟨_, List.mem_cons_of_mem _ (List.mem_cons_of_mem _ (List.mem_cons_of_mem _ List.mem_cons_self)), key 0 _ h⟩

/-- Reading the output through its own block shape and through its rows is one and the same block of logits. -/
theorem outR_owns (c : Dev nD) (arg7 : Memref sig .tc .vmem S640x1x4x128 .f32) (harg7 : arg7.IsWhole) (a : FVec F S640x512 .f32) :
    (owns (c : Thread nD τ) (outR arg7 harg7) fullShare (lgR a) : sProp 𝕄) ⊢ owns (c : Thread nD τ) arg7 fullShare (lgB a) := by
  have hs : (outR arg7 harg7).view.set = arg7.view.set := View.set_reshape _ _
  unfold owns
  rw [hs]
  iintro ⟨%f, %hf, H⟩
  iexists f
  isplitr
  · ipureintro
    funext y
    have hy0 : (y 0).val < 640 := (y 0).isLt
    have hy1 : (y 1).val < 1 := (y 1).isLt
    have hy2 : (y 2).val < 4 := (y 2).isLt
    have hy3 : (y 3).val < 128 := (y 3).isLt
    let z : S2560x128.Idx := ix2 (⟨(y 0).val * 4 + (y 2).val, by omega⟩ : Fin 2560) (⟨(y 3).val, hy3⟩ : Fin 128)
    have hz : Shape.reshapeEquiv (s := S640x1x4x128) (s' := S2560x128) reshapes_S640x1x4x128_S2560x128.1 z = y := by
      refine Shape.reshapeEquiv_eq_of_rowMajor _ ?_
      rw [Shape.rowMajor_val_four, Shape.rowMajor_val_two]
      show (((y 0).val * 1 + (y 1).val) * 4 + (y 2).val) * 128 + (y 3).val = ((y 0).val * 4 + (y 2).val) * 128 + (y 3).val
      omega
    have e := congrFun hf z
    have e2 : arg7.view.read (Elt F) f (Shape.reshapeEquiv (s := S640x1x4x128) (s' := S2560x128) reshapes_S640x1x4x128_S2560x128.1 z) = lgR a z := e
    rw [hz] at e2
    rw [e2]
    unfold lgR lgB
    refine congrArg a ?_
    funext b; fin_cases b
    · exact Fin.ext (show ((y 0).val * 4 + (y 2).val) / 4 = (y 0).val by omega)
    · exact Fin.ext (show ((y 0).val * 4 + (y 2).val) % 4 * 128 + (y 3).val = (y 2).val * 128 + (y 3).val by omega)
  · iexact H

/-- The output buffer at anything is its rows at anything. -/
theorem outR_any (c : Dev nD) (arg7 : Memref sig .tc .vmem S640x1x4x128 .f32) (harg7 : arg7.IsWhole) :
    (iprop(∃ d, owns (c : Thread nD τ) arg7 fullShare d) : sProp 𝕄) ⊢ iprop(∃ d, owns (c : Thread nD τ) (outR arg7 harg7) fullShare d) := by
  have hs : (outR arg7 harg7).view.set = arg7.view.set := View.set_reshape _ _
  unfold owns
  rw [hs]
  iintro ⟨%d, %f, %hf, H⟩
  iexists (outR arg7 harg7).view.read (Elt F) f
  iexists f
  isplitr
  · ipureintro; rfl
  · iexact H

end Cert.Kernel.Gen
-- ==== Proof.BitsRunA.lean ====
module

public import proofs.«01_k».proof.Proof.BitsCases

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the first point: the running values start over and take in the point's block. -/
theorem bodyRun_A (c : Dev nD) (i : grid0.Coords) (arg1 : Memref sig .tc .vmem S640x6144 .bf16) (harg1 : arg1.IsWhole) (arg2 : Memref sig .tc .vmem S768x512 .i32) (harg2 : arg2.IsWhole) (arg3 : Memref sig .tc .vmem S48x512 .bf16) (harg3 : arg3.IsWhole) (arg4 : Memref sig .tc .vmem S1x640 .i32) (harg4 : arg4.IsWhole) (arg5 : Memref sig .tc .vmem S1x640 .f32) (harg5 : arg5.IsWhole) (arg6 : Memref sig .tc .vmem S1x640 .f32) (harg6 : arg6.IsWhole) (arg7 : Memref sig .tc .vmem S640x1x4x128 .f32) (harg7 : arg7.IsWhole) (arg8 : Memref sig .tc .vmem S6144x512 .bf16) (harg8 : arg8.IsWhole) (arg9 : Memref sig .tc .vmem S640x128 .f32) (harg9 : arg9.IsWhole) (arg10 : Memref sig .tc .vmem S640x128 .f32) (harg10 : arg10.IsWhole) (arg11 : Memref sig .tc .vmem S640x128 .i32) (harg11 : arg11.IsWhole) (hc0 : cond0_0 i) (hc1 : ¬cond0_1 i)
    (x0 : Vec F S640x6144 .bf16) (x1 : Vec F S768x512 .i32) (x2 : Vec F S48x512 .bf16)
    (xi3 : Vec F S1x640 .i32) (xi4 : Vec F S1x640 .f32) (xi5 : Vec F S1x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ (∃ d, owns (c : Thread nD τ) (outR arg7 harg7) fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) (outR arg7 harg7) fullShare (lgR (acc x0 x1 x2)) ∗ (∃ d, owns (c : Thread nD τ) arg8 fullShare d) ∗ owns (c : Thread nD τ) arg9 fullShare (st1 (acc x0 x1 x2) k0_pay9) ∗ owns (c : Thread nD τ) arg10 fullShare (st2 (acc x0 x1 x2) k0_pay9 k0_pay10) ∗ owns (c : Thread nD τ) arg11 fullShare (st3 i (acc x0 x1 x2) k0_pay9 k0_pay11)) -∗ K ⟨⟩))
      ⊢ wp frame (wpE (defs₀ (F := F)) Variants.none c none) E (cc0_int4_head i arg1 harg1 arg2 harg2 arg3 harg3 arg4 harg4 arg5 harg5 arg6 harg6 arg7 harg7 arg8 harg8 arg9 harg9 arg10 harg10 arg11 harg11) K := by
  simp only [cc0_int4_head_eq_skeleton]; unfold cc0_int4_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0 | sl_exact hc1)
  sl_step
  have hL : bodyRun_A.sl.HS0_48 c arg2 harg2 arg3 harg3 x1 x2 = slabs arg2 harg2 arg3 harg3 x1 x2 48 le_rfl := rfl
  have hw : bodyRun_A.sl.v917 c arg2 harg2 arg3 harg3 arg8 x1 x2 = wblk x1 x2 := by
    unfold bodyRun_A.sl.v917; rw [hL]; exact slabs_read arg8 arg2 harg2 arg3 harg3 x1 x2 _
  have hx : View.readAt (Elt F) arg1.view (Rect.unit (s := S640x6144) ![0, 0] S640x6144.size inb_S640x6144_S640x6144_0_0).toLoadRect (harg1.unread x0) = x0 :=
    (View.readAt_full _ _ _).trans (harg1.read_unread _)
  have h9 : bodyRun_A.sl.v931 (F := F) c arg9 = k0_pay9 := View.readCov_full _ _ _ _ _
  have h10 : bodyRun_A.sl.v932 (F := F) c arg10 = k0_pay10 := View.readCov_full _ _ _ _ _
  have h11 : bodyRun_A.sl.v933 (F := F) c arg11 = k0_pay11 := View.readCov_full _ _ _ _ _
  have ea : bodyRun_A.sl.r_22 c arg1 harg1 arg2 harg2 arg3 harg3 arg8 x0 x1 x2 = acc x0 x1 x2 := by unfold bodyRun_A.sl.r_22; rw [hx, hw]; rfl
  have e1 : k0_pay1 (bodyRun_A.sl.r_26 c arg1 harg1 arg2 harg2 arg3 harg3 arg8 arg9 x0 x1 x2) = (st1 (acc x0 x1 x2) k0_pay9) := by unfold bodyRun_A.sl.r_26; rw [ea, h9]; rfl
  have e2 : k0_pay2 (bodyRun_A.sl.r_24 c arg1 harg1 arg2 harg2 arg3 harg3 arg8 arg9 arg10 x0 x1 x2) = (st2 (acc x0 x1 x2) k0_pay9 k0_pay10) := by unfold bodyRun_A.sl.r_24; rw [ea, h9, h10]; rfl
  have e3 : k0_pay3 (bodyRun_A.sl.r_25 c i arg1 harg1 arg2 harg2 arg3 harg3 arg8 arg9 arg11 x0 x1 x2) = (st3 i (acc x0 x1 x2) k0_pay9 k0_pay11) := by unfold bodyRun_A.sl.r_25; rw [ea, h9, h11]; rfl
  have e4 : bodyRun_A.sl.r_23 c arg1 harg1 arg2 harg2 arg3 harg3 arg8 x0 x1 x2 = k0_pay89 x0 (wblk x1 x2) := by unfold bodyRun_A.sl.r_23; rw [hx, hw]
  have hR : (outR arg7 harg7).view.read (Elt F) ((outR arg7 harg7).view.writes (Elt F) f6
      [⟨⟨(⟨![3, 0], S640x128.size, ![4, 1], inb_S2560x128_S640x128_3_0_s_4_1⟩ : LoadRect S2560x128), spos_4_1⟩, bodyRun_A.sl.r_23 c arg1 harg1 arg2 harg2 arg3 harg3 arg8 x0 x1 x2⟩,
       ⟨⟨(⟨![2, 0], S640x128.size, ![4, 1], inb_S2560x128_S640x128_2_0_s_4_1⟩ : LoadRect S2560x128), spos_4_1⟩, k0_pay88 (View.readAt (Elt F) arg1.view (Rect.unit (s := S640x6144) ![0, 0] S640x6144.size inb_S640x6144_S640x6144_0_0).toLoadRect (harg1.unread x0)) (bodyRun_A.sl.v917 c arg2 harg2 arg3 harg3 arg8 x1 x2)⟩,
       ⟨⟨(⟨![1, 0], S640x128.size, ![4, 1], inb_S2560x128_S640x128_1_0_s_4_1⟩ : LoadRect S2560x128), spos_4_1⟩, k0_pay87 (View.readAt (Elt F) arg1.view (Rect.unit (s := S640x6144) ![0, 0] S640x6144.size inb_S640x6144_S640x6144_0_0).toLoadRect (harg1.unread x0)) (bodyRun_A.sl.v917 c arg2 harg2 arg3 harg3 arg8 x1 x2)⟩,
       ⟨⟨(⟨![0, 0], S640x128.size, ![4, 1], inb_S2560x128_S640x128_0_0_s_4_1⟩ : LoadRect S2560x128), spos_4_1⟩, k0_pay86 (View.readAt (Elt F) arg1.view (Rect.unit (s := S640x6144) ![0, 0] S640x6144.size inb_S640x6144_S640x6144_0_0).toLoadRect (harg1.unread x0)) (bodyRun_A.sl.v917 c arg2 harg2 arg3 harg3 arg8 x1 x2)⟩]) = lgR (acc x0 x1 x2) := by
    rw [e4, hx, hw]; exact lgR_read _ _ x0 (wblk x1 x2)
  have w1 : arg9.view.read (Elt F) (arg9.view.writes (Elt F) fs1 (⟨Rect.unit (s := S640x128) ![0, 0] ![640, 128] inb_S640x128_S640x128_0_0, k0_pay1 (bodyRun_A.sl.r_26 c arg1 harg1 arg2 harg2 arg3 harg3 arg8 arg9 x0 x1 x2)⟩ :: bodyRun_A.sl.HS1_1)) = _ :=
    (View.read_writes_full arg9.view fs1 inb_S640x128_S640x128_0_0 _ bodyRun_A.sl.HS1_1).trans e1
  have w2 : arg10.view.read (Elt F) (arg10.view.writes (Elt F) fs2 (⟨Rect.unit (s := S640x128) ![0, 0] ![640, 128] inb_S640x128_S640x128_0_0, k0_pay2 (bodyRun_A.sl.r_24 c arg1 harg1 arg2 harg2 arg3 harg3 arg8 arg9 arg10 x0 x1 x2)⟩ :: bodyRun_A.sl.HS2_1)) = _ :=
    (View.read_writes_full arg10.view fs2 inb_S640x128_S640x128_0_0 _ bodyRun_A.sl.HS2_1).trans e2
  have w3 : arg11.view.read (Elt F) (arg11.view.writes (Elt F) fs3 (⟨Rect.unit (s := S640x128) ![0, 0] ![640, 128] inb_S640x128_S640x128_0_0, k0_pay3 (bodyRun_A.sl.r_25 c i arg1 harg1 arg2 harg2 arg3 harg3 arg8 arg9 arg11 x0 x1 x2)⟩ :: bodyRun_A.sl.HS3_1)) = _ :=
    (View.read_writes_full arg11.view fs3 inb_S640x128_S640x128_0_0 _ bodyRun_A.sl.HS3_1).trans e3
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact hR
    · iexact H6
  isplitl [HS0]
  · iexists (arg8.view.read (Elt F) (arg8.view.writes (Elt F) fs0 (bodyRun_A.sl.HS0_48 c arg2 harg2 arg3 harg3 x1 x2)))
    iexists _; isplitr
    · ipureintro; rfl
    · iexact HS0
  isplitl [HS1]
  · iexists _; isplitr
    · ipureintro; exact w1
    · iexact HS1
  isplitl [HS2]
  · iexists _; isplitr
    · ipureintro; exact w2
    · iexact HS2
  iexists _; isplitr
  · ipureintro; exact w3
  · iexact HS3

end Cert.Kernel.Gen

end
-- ==== Proof.BitsRunB.lean ====
module

public import proofs.«01_k».proof.Proof.BitsCases

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a point that is neither first nor last: the running values take in the point's block of logits, which the output block receives. -/
theorem bodyRun_B (c : Dev nD) (i : grid0.Coords) (arg1 : Memref sig .tc .vmem S640x6144 .bf16) (harg1 : arg1.IsWhole) (arg2 : Memref sig .tc .vmem S768x512 .i32) (harg2 : arg2.IsWhole) (arg3 : Memref sig .tc .vmem S48x512 .bf16) (harg3 : arg3.IsWhole) (arg4 : Memref sig .tc .vmem S1x640 .i32) (harg4 : arg4.IsWhole) (arg5 : Memref sig .tc .vmem S1x640 .f32) (harg5 : arg5.IsWhole) (arg6 : Memref sig .tc .vmem S1x640 .f32) (harg6 : arg6.IsWhole) (arg7 : Memref sig .tc .vmem S640x1x4x128 .f32) (harg7 : arg7.IsWhole) (arg8 : Memref sig .tc .vmem S6144x512 .bf16) (harg8 : arg8.IsWhole) (arg9 : Memref sig .tc .vmem S640x128 .f32) (harg9 : arg9.IsWhole) (arg10 : Memref sig .tc .vmem S640x128 .f32) (harg10 : arg10.IsWhole) (arg11 : Memref sig .tc .vmem S640x128 .i32) (harg11 : arg11.IsWhole) (hc0 : ¬cond0_0 i) (hc1 : ¬cond0_1 i)
    (x0 : Vec F S640x6144 .bf16) (x1 : Vec F S768x512 .i32) (x2 : Vec F S48x512 .bf16) (xs1 : Vec F S640x128 .f32) (xs2 : Vec F S640x128 .f32) (xs3 : Vec F S640x128 .i32)
    (xi3 : Vec F S1x640 .i32) (xi4 : Vec F S1x640 .f32) (xi5 : Vec F S1x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ (∃ d, owns (c : Thread nD τ) (outR arg7 harg7) fullShare d) ∗ (∃ d, owns (c : Thread nD τ) arg8 fullShare d) ∗ owns (c : Thread nD τ) arg9 fullShare xs1 ∗ owns (c : Thread nD τ) arg10 fullShare xs2 ∗ owns (c : Thread nD τ) arg11 fullShare xs3
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) (outR arg7 harg7) fullShare (lgR (acc x0 x1 x2)) ∗ (∃ d, owns (c : Thread nD τ) arg8 fullShare d) ∗ owns (c : Thread nD τ) arg9 fullShare (st1 (acc x0 x1 x2) xs1) ∗ owns (c : Thread nD τ) arg10 fullShare (st2 (acc x0 x1 x2) xs1 xs2) ∗ owns (c : Thread nD τ) arg11 fullShare (st3 i (acc x0 x1 x2) xs1 xs3)) -∗ K ⟨⟩))
      ⊢ wp frame (wpE (defs₀ (F := F)) Variants.none c none) E (cc0_int4_head i arg1 harg1 arg2 harg2 arg3 harg3 arg4 harg4 arg5 harg5 arg6 harg6 arg7 harg7 arg8 harg8 arg9 harg9 arg10 harg10 arg11 harg11) K := by
  simp only [cc0_int4_head_eq_skeleton]; unfold cc0_int4_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1; obtain rfl := harg10.eq_unread hfs2; obtain rfl := harg11.eq_unread hfs3
  sl_exec (disch := first | sl_exact hc0 | sl_exact hc1)
  sl_step
  have hL : bodyRun_B.sl.HS0_48 c arg2 harg2 arg3 harg3 x1 x2 = slabs arg2 harg2 arg3 harg3 x1 x2 48 le_rfl := rfl
  have hw : bodyRun_B.sl.v917 c arg2 harg2 arg3 harg3 arg8 x1 x2 = wblk x1 x2 := by
    unfold bodyRun_B.sl.v917; rw [hL]; exact slabs_read arg8 arg2 harg2 arg3 harg3 x1 x2 _
  have hx : View.readAt (Elt F) arg1.view (Rect.unit (s := S640x6144) ![0, 0] S640x6144.size inb_S640x6144_S640x6144_0_0).toLoadRect (harg1.unread x0) = x0 :=
    (View.readAt_full _ _ _).trans (harg1.read_unread _)
  have h9 : View.readAt (Elt F) arg9.view (Rect.unit (s := S640x128) ![0, 0] S640x128.size inb_S640x128_S640x128_0_0).toLoadRect (harg9.unread xs1) = xs1 :=
    (View.readAt_full _ _ _).trans (harg9.read_unread _)
  have h10 : View.readAt (Elt F) arg10.view (Rect.unit (s := S640x128) ![0, 0] S640x128.size inb_S640x128_S640x128_0_0).toLoadRect (harg10.unread xs2) = xs2 :=
    (View.readAt_full _ _ _).trans (harg10.read_unread _)
  have h11 : View.readAt (Elt F) arg11.view (Rect.unit (s := S640x128) ![0, 0] S640x128.size inb_S640x128_S640x128_0_0).toLoadRect (harg11.unread xs3) = xs3 :=
    (View.readAt_full _ _ _).trans (harg11.read_unread _)
  have ea : bodyRun_B.sl.r_22 c arg1 harg1 arg2 harg2 arg3 harg3 arg8 x0 x1 x2 = acc x0 x1 x2 := by unfold bodyRun_B.sl.r_22; rw [hx, hw]; rfl
  have e1 : k0_pay1 (bodyRun_B.sl.r_26 c arg1 harg1 arg2 harg2 arg3 harg3 arg8 arg9 harg9 x0 x1 x2 xs1) = (st1 (acc x0 x1 x2) xs1) := by unfold bodyRun_B.sl.r_26; rw [ea, h9]; rfl
  have e2 : k0_pay2 (bodyRun_B.sl.r_24 c arg1 harg1 arg2 harg2 arg3 harg3 arg8 arg9 harg9 arg10 harg10 x0 x1 x2 xs1 xs2) = (st2 (acc x0 x1 x2) xs1 xs2) := by unfold bodyRun_B.sl.r_24; rw [ea, h9, h10]; rfl
  have e3 : k0_pay3 (bodyRun_B.sl.r_25 c i arg1 harg1 arg2 harg2 arg3 harg3 arg8 arg9 harg9 arg11 harg11 x0 x1 x2 xs1 xs3) = (st3 i (acc x0 x1 x2) xs1 xs3) := by unfold bodyRun_B.sl.r_25; rw [ea, h9, h11]; rfl
  have e4 : bodyRun_B.sl.r_23 c arg1 harg1 arg2 harg2 arg3 harg3 arg8 x0 x1 x2 = k0_pay89 x0 (wblk x1 x2) := by unfold bodyRun_B.sl.r_23; rw [hx, hw]
  have hR : (outR arg7 harg7).view.read (Elt F) ((outR arg7 harg7).view.writes (Elt F) f6
      [⟨⟨(⟨![3, 0], S640x128.size, ![4, 1], inb_S2560x128_S640x128_3_0_s_4_1⟩ : LoadRect S2560x128), spos_4_1⟩, bodyRun_B.sl.r_23 c arg1 harg1 arg2 harg2 arg3 harg3 arg8 x0 x1 x2⟩,
       ⟨⟨(⟨![2, 0], S640x128.size, ![4, 1], inb_S2560x128_S640x128_2_0_s_4_1⟩ : LoadRect S2560x128), spos_4_1⟩, k0_pay88 (View.readAt (Elt F) arg1.view (Rect.unit (s := S640x6144) ![0, 0] S640x6144.size inb_S640x6144_S640x6144_0_0).toLoadRect (harg1.unread x0)) (bodyRun_B.sl.v917 c arg2 harg2 arg3 harg3 arg8 x1 x2)⟩,
       ⟨⟨(⟨![1, 0], S640x128.size, ![4, 1], inb_S2560x128_S640x128_1_0_s_4_1⟩ : LoadRect S2560x128), spos_4_1⟩, k0_pay87 (View.readAt (Elt F) arg1.view (Rect.unit (s := S640x6144) ![0, 0] S640x6144.size inb_S640x6144_S640x6144_0_0).toLoadRect (harg1.unread x0)) (bodyRun_B.sl.v917 c arg2 harg2 arg3 harg3 arg8 x1 x2)⟩,
       ⟨⟨(⟨![0, 0], S640x128.size, ![4, 1], inb_S2560x128_S640x128_0_0_s_4_1⟩ : LoadRect S2560x128), spos_4_1⟩, k0_pay86 (View.readAt (Elt F) arg1.view (Rect.unit (s := S640x6144) ![0, 0] S640x6144.size inb_S640x6144_S640x6144_0_0).toLoadRect (harg1.unread x0)) (bodyRun_B.sl.v917 c arg2 harg2 arg3 harg3 arg8 x1 x2)⟩]) = lgR (acc x0 x1 x2) := by
    rw [e4, hx, hw]; exact lgR_read _ _ x0 (wblk x1 x2)
  have w1 : arg9.view.read (Elt F) (arg9.view.writes (Elt F) (harg9.unread xs1) (⟨Rect.unit (s := S640x128) ![0, 0] ![640, 128] inb_S640x128_S640x128_0_0, k0_pay1 (bodyRun_B.sl.r_26 c arg1 harg1 arg2 harg2 arg3 harg3 arg8 arg9 harg9 x0 x1 x2 xs1)⟩ :: [])) = _ :=
    (View.read_writes_full arg9.view (harg9.unread xs1) inb_S640x128_S640x128_0_0 _ []).trans e1
  have w2 : arg10.view.read (Elt F) (arg10.view.writes (Elt F) (harg10.unread xs2) (⟨Rect.unit (s := S640x128) ![0, 0] ![640, 128] inb_S640x128_S640x128_0_0, k0_pay2 (bodyRun_B.sl.r_24 c arg1 harg1 arg2 harg2 arg3 harg3 arg8 arg9 harg9 arg10 harg10 x0 x1 x2 xs1 xs2)⟩ :: [])) = _ :=
    (View.read_writes_full arg10.view (harg10.unread xs2) inb_S640x128_S640x128_0_0 _ []).trans e2
  have w3 : arg11.view.read (Elt F) (arg11.view.writes (Elt F) (harg11.unread xs3) (⟨Rect.unit (s := S640x128) ![0, 0] ![640, 128] inb_S640x128_S640x128_0_0, k0_pay3 (bodyRun_B.sl.r_25 c i arg1 harg1 arg2 harg2 arg3 harg3 arg8 arg9 harg9 arg11 harg11 x0 x1 x2 xs1 xs3)⟩ :: [])) = _ :=
    (View.read_writes_full arg11.view (harg11.unread xs3) inb_S640x128_S640x128_0_0 _ []).trans e3
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact hR
    · iexact H6
  isplitl [HS0]
  · iexists (arg8.view.read (Elt F) (arg8.view.writes (Elt F) fs0 (bodyRun_B.sl.HS0_48 c arg2 harg2 arg3 harg3 x1 x2)))
    iexists _; isplitr
    · ipureintro; rfl
    · iexact HS0
  isplitl [HS1]
  · iexists _; isplitr
    · ipureintro; exact w1
    · iexact HS1
  isplitl [HS2]
  · iexists _; isplitr
    · ipureintro; exact w2
    · iexact HS2
  iexists _; isplitr
  · ipureintro; exact w3
  · iexact HS3

end Cert.Kernel.Gen

end
-- ==== Proof.BitsRunC.lean ====
module

public import proofs.«01_k».proof.Proof.BitsCases

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the last point: as at the others, then the three results are read off the running values. -/
theorem bodyRun_C (c : Dev nD) (i : grid0.Coords) (arg1 : Memref sig .tc .vmem S640x6144 .bf16) (harg1 : arg1.IsWhole) (arg2 : Memref sig .tc .vmem S768x512 .i32) (harg2 : arg2.IsWhole) (arg3 : Memref sig .tc .vmem S48x512 .bf16) (harg3 : arg3.IsWhole) (arg4 : Memref sig .tc .vmem S1x640 .i32) (harg4 : arg4.IsWhole) (arg5 : Memref sig .tc .vmem S1x640 .f32) (harg5 : arg5.IsWhole) (arg6 : Memref sig .tc .vmem S1x640 .f32) (harg6 : arg6.IsWhole) (arg7 : Memref sig .tc .vmem S640x1x4x128 .f32) (harg7 : arg7.IsWhole) (arg8 : Memref sig .tc .vmem S6144x512 .bf16) (harg8 : arg8.IsWhole) (arg9 : Memref sig .tc .vmem S640x128 .f32) (harg9 : arg9.IsWhole) (arg10 : Memref sig .tc .vmem S640x128 .f32) (harg10 : arg10.IsWhole) (arg11 : Memref sig .tc .vmem S640x128 .i32) (harg11 : arg11.IsWhole) (hc0 : ¬cond0_0 i) (hc1 : cond0_1 i)
    (x0 : Vec F S640x6144 .bf16) (x1 : Vec F S768x512 .i32) (x2 : Vec F S48x512 .bf16) (xs1 : Vec F S640x128 .f32) (xs2 : Vec F S640x128 .f32) (xs3 : Vec F S640x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) (outR arg7 harg7) fullShare d) ∗ (∃ d, owns (c : Thread nD τ) arg8 fullShare d) ∗ owns (c : Thread nD τ) arg9 fullShare xs1 ∗ owns (c : Thread nD τ) arg10 fullShare xs2 ∗ owns (c : Thread nD τ) arg11 fullShare xs3
        ∗ (iprop(owns (c : Thread nD τ) arg1 fullShare x0 ∗ owns (c : Thread nD τ) arg2 fullShare x1 ∗ owns (c : Thread nD τ) arg3 fullShare x2 ∗ owns (c : Thread nD τ) arg4 fullShare (k0_pay7 (st1 (acc x0 x1 x2) xs1) (st3 i (acc x0 x1 x2) xs1 xs3)) ∗ owns (c : Thread nD τ) arg5 fullShare (k0_pay8 (st1 (acc x0 x1 x2) xs1) (st2 (acc x0 x1 x2) xs1 xs2) (st3 i (acc x0 x1 x2) xs1 xs3)) ∗ owns (c : Thread nD τ) arg6 fullShare (k0_pay6 (st1 (acc x0 x1 x2) xs1)) ∗ owns (c : Thread nD τ) (outR arg7 harg7) fullShare (lgR (acc x0 x1 x2)) ∗ (∃ d, owns (c : Thread nD τ) arg8 fullShare d) ∗ owns (c : Thread nD τ) arg9 fullShare (st1 (acc x0 x1 x2) xs1) ∗ owns (c : Thread nD τ) arg10 fullShare (st2 (acc x0 x1 x2) xs1 xs2) ∗ owns (c : Thread nD τ) arg11 fullShare (st3 i (acc x0 x1 x2) xs1 xs3)) -∗ K ⟨⟩))
      ⊢ wp frame (wpE (defs₀ (F := F)) Variants.none c none) E (cc0_int4_head i arg1 harg1 arg2 harg2 arg3 harg3 arg4 harg4 arg5 harg5 arg6 harg6 arg7 harg7 arg8 harg8 arg9 harg9 arg10 harg10 arg11 harg11) K := by
  simp only [cc0_int4_head_eq_skeleton]; unfold cc0_int4_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg9.eq_unread hfs1; obtain rfl := harg10.eq_unread hfs2; obtain rfl := harg11.eq_unread hfs3
  sl_exec (disch := first | sl_exact hc0 | sl_exact hc1)
  sl_step
  have hL : bodyRun_C.sl.HS0_48 c arg2 harg2 arg3 harg3 x1 x2 = slabs arg2 harg2 arg3 harg3 x1 x2 48 le_rfl := rfl
  have hw : bodyRun_C.sl.v917 c arg2 harg2 arg3 harg3 arg8 x1 x2 = wblk x1 x2 := by
    unfold bodyRun_C.sl.v917; rw [hL]; exact slabs_read arg8 arg2 harg2 arg3 harg3 x1 x2 _
  have hx : View.readAt (Elt F) arg1.view (Rect.unit (s := S640x6144) ![0, 0] S640x6144.size inb_S640x6144_S640x6144_0_0).toLoadRect (harg1.unread x0) = x0 :=
    (View.readAt_full _ _ _).trans (harg1.read_unread _)
  have h9 : View.readAt (Elt F) arg9.view (Rect.unit (s := S640x128) ![0, 0] S640x128.size inb_S640x128_S640x128_0_0).toLoadRect (harg9.unread xs1) = xs1 :=
    (View.readAt_full _ _ _).trans (harg9.read_unread _)
  have h10 : View.readAt (Elt F) arg10.view (Rect.unit (s := S640x128) ![0, 0] S640x128.size inb_S640x128_S640x128_0_0).toLoadRect (harg10.unread xs2) = xs2 :=
    (View.readAt_full _ _ _).trans (harg10.read_unread _)
  have h11 : View.readAt (Elt F) arg11.view (Rect.unit (s := S640x128) ![0, 0] S640x128.size inb_S640x128_S640x128_0_0).toLoadRect (harg11.unread xs3) = xs3 :=
    (View.readAt_full _ _ _).trans (harg11.read_unread _)
  have ea : bodyRun_C.sl.r_22 c arg1 harg1 arg2 harg2 arg3 harg3 arg8 x0 x1 x2 = acc x0 x1 x2 := by unfold bodyRun_C.sl.r_22; rw [hx, hw]; rfl
  have e1 : k0_pay1 (bodyRun_C.sl.r_26 c arg1 harg1 arg2 harg2 arg3 harg3 arg8 arg9 harg9 x0 x1 x2 xs1) = (st1 (acc x0 x1 x2) xs1) := by unfold bodyRun_C.sl.r_26; rw [ea, h9]; rfl
  have e2 : k0_pay2 (bodyRun_C.sl.r_24 c arg1 harg1 arg2 harg2 arg3 harg3 arg8 arg9 harg9 arg10 harg10 x0 x1 x2 xs1 xs2) = (st2 (acc x0 x1 x2) xs1 xs2) := by unfold bodyRun_C.sl.r_24; rw [ea, h9, h10]; rfl
  have e3 : k0_pay3 (bodyRun_C.sl.r_25 c i arg1 harg1 arg2 harg2 arg3 harg3 arg8 arg9 harg9 arg11 harg11 x0 x1 x2 xs1 xs3) = (st3 i (acc x0 x1 x2) xs1 xs3) := by unfold bodyRun_C.sl.r_25; rw [ea, h9, h11]; rfl
  have e4 : bodyRun_C.sl.r_23 c arg1 harg1 arg2 harg2 arg3 harg3 arg8 x0 x1 x2 = k0_pay89 x0 (wblk x1 x2) := by unfold bodyRun_C.sl.r_23; rw [hx, hw]
  have e982 : bodyRun_C.sl.v982 c arg1 harg1 arg2 harg2 arg3 harg3 arg8 arg9 harg9 x0 x1 x2 xs1 = (st1 (acc x0 x1 x2) xs1) := (View.readCov_full _ _ _ _ _).trans e1
  have e984 : bodyRun_C.sl.v984 c arg1 harg1 arg2 harg2 arg3 harg3 arg8 arg9 harg9 arg10 harg10 x0 x1 x2 xs1 xs2 = (st2 (acc x0 x1 x2) xs1 xs2) := (View.readCov_full _ _ _ _ _).trans e2
  have e986 : bodyRun_C.sl.v986 c i arg1 harg1 arg2 harg2 arg3 harg3 arg8 arg9 harg9 arg11 harg11 x0 x1 x2 xs1 xs3 = (st3 i (acc x0 x1 x2) xs1 xs3) := (View.readCov_full _ _ _ _ _).trans e3
  have g3 : k0_pay7 (bodyRun_C.sl.v982 c arg1 harg1 arg2 harg2 arg3 harg3 arg8 arg9 harg9 x0 x1 x2 xs1) (bodyRun_C.sl.v986 c i arg1 harg1 arg2 harg2 arg3 harg3 arg8 arg9 harg9 arg11 harg11 x0 x1 x2 xs1 xs3) = k0_pay7 (st1 (acc x0 x1 x2) xs1) (st3 i (acc x0 x1 x2) xs1 xs3) := by rw [e982, e986]
  have g4 : k0_pay8 (bodyRun_C.sl.v982 c arg1 harg1 arg2 harg2 arg3 harg3 arg8 arg9 harg9 x0 x1 x2 xs1) (bodyRun_C.sl.v984 c arg1 harg1 arg2 harg2 arg3 harg3 arg8 arg9 harg9 arg10 harg10 x0 x1 x2 xs1 xs2) (bodyRun_C.sl.v986 c i arg1 harg1 arg2 harg2 arg3 harg3 arg8 arg9 harg9 arg11 harg11 x0 x1 x2 xs1 xs3) = k0_pay8 (st1 (acc x0 x1 x2) xs1) (st2 (acc x0 x1 x2) xs1 xs2) (st3 i (acc x0 x1 x2) xs1 xs3) := by rw [e982, e984, e986]
  have g5 : k0_pay6 (bodyRun_C.sl.v982 c arg1 harg1 arg2 harg2 arg3 harg3 arg8 arg9 harg9 x0 x1 x2 xs1) = k0_pay6 (st1 (acc x0 x1 x2) xs1) := by rw [e982]
  have q3 : arg4.view.read (Elt F) (arg4.view.writes (Elt F) f3 [⟨Rect.unit (s := S1x640) ![0, 0] ![1, 640] inb_S1x640_S1x640_0_0, k0_pay7 (bodyRun_C.sl.v982 c arg1 harg1 arg2 harg2 arg3 harg3 arg8 arg9 harg9 x0 x1 x2 xs1) (bodyRun_C.sl.v986 c i arg1 harg1 arg2 harg2 arg3 harg3 arg8 arg9 harg9 arg11 harg11 x0 x1 x2 xs1 xs3)⟩]) = _ :=
    (View.read_writes_full arg4.view f3 inb_S1x640_S1x640_0_0 _ []).trans g3
  have q4 : arg5.view.read (Elt F) (arg5.view.writes (Elt F) f4 [⟨Rect.unit (s := S1x640) ![0, 0] ![1, 640] inb_S1x640_S1x640_0_0, k0_pay8 (bodyRun_C.sl.v982 c arg1 harg1 arg2 harg2 arg3 harg3 arg8 arg9 harg9 x0 x1 x2 xs1) (bodyRun_C.sl.v984 c arg1 harg1 arg2 harg2 arg3 harg3 arg8 arg9 harg9 arg10 harg10 x0 x1 x2 xs1 xs2) (bodyRun_C.sl.v986 c i arg1 harg1 arg2 harg2 arg3 harg3 arg8 arg9 harg9 arg11 harg11 x0 x1 x2 xs1 xs3)⟩]) = _ :=
    (View.read_writes_full arg5.view f4 inb_S1x640_S1x640_0_0 _ []).trans g4
  have q5 : arg6.view.read (Elt F) (arg6.view.writes (Elt F) f5 [⟨Rect.unit (s := S1x640) ![0, 0] ![1, 640] inb_S1x640_S1x640_0_0, k0_pay6 (bodyRun_C.sl.v982 c arg1 harg1 arg2 harg2 arg3 harg3 arg8 arg9 harg9 x0 x1 x2 xs1)⟩]) = _ :=
    (View.read_writes_full arg6.view f5 inb_S1x640_S1x640_0_0 _ []).trans g5
  have hR : (outR arg7 harg7).view.read (Elt F) ((outR arg7 harg7).view.writes (Elt F) f6
      [⟨⟨(⟨![3, 0], S640x128.size, ![4, 1], inb_S2560x128_S640x128_3_0_s_4_1⟩ : LoadRect S2560x128), spos_4_1⟩, bodyRun_C.sl.r_23 c arg1 harg1 arg2 harg2 arg3 harg3 arg8 x0 x1 x2⟩,
       ⟨⟨(⟨![2, 0], S640x128.size, ![4, 1], inb_S2560x128_S640x128_2_0_s_4_1⟩ : LoadRect S2560x128), spos_4_1⟩, k0_pay88 (View.readAt (Elt F) arg1.view (Rect.unit (s := S640x6144) ![0, 0] S640x6144.size inb_S640x6144_S640x6144_0_0).toLoadRect (harg1.unread x0)) (bodyRun_C.sl.v917 c arg2 harg2 arg3 harg3 arg8 x1 x2)⟩,
       ⟨⟨(⟨![1, 0], S640x128.size, ![4, 1], inb_S2560x128_S640x128_1_0_s_4_1⟩ : LoadRect S2560x128), spos_4_1⟩, k0_pay87 (View.readAt (Elt F) arg1.view (Rect.unit (s := S640x6144) ![0, 0] S640x6144.size inb_S640x6144_S640x6144_0_0).toLoadRect (harg1.unread x0)) (bodyRun_C.sl.v917 c arg2 harg2 arg3 harg3 arg8 x1 x2)⟩,
       ⟨⟨(⟨![0, 0], S640x128.size, ![4, 1], inb_S2560x128_S640x128_0_0_s_4_1⟩ : LoadRect S2560x128), spos_4_1⟩, k0_pay86 (View.readAt (Elt F) arg1.view (Rect.unit (s := S640x6144) ![0, 0] S640x6144.size inb_S640x6144_S640x6144_0_0).toLoadRect (harg1.unread x0)) (bodyRun_C.sl.v917 c arg2 harg2 arg3 harg3 arg8 x1 x2)⟩]) = lgR (acc x0 x1 x2) := by
    rw [e4, hx, hw]; exact lgR_read _ _ x0 (wblk x1 x2)
  have w1 : arg9.view.read (Elt F) (arg9.view.writes (Elt F) (harg9.unread xs1) (bodyRun_C.sl.HS1_1 c arg1 harg1 arg2 harg2 arg3 harg3 arg8 arg9 harg9 x0 x1 x2 xs1)) = _ :=
    (View.read_writes_full arg9.view (harg9.unread xs1) inb_S640x128_S640x128_0_0 _ []).trans e1
  have w2 : arg10.view.read (Elt F) (arg10.view.writes (Elt F) (harg10.unread xs2) (bodyRun_C.sl.HS2_1 c arg1 harg1 arg2 harg2 arg3 harg3 arg8 arg9 harg9 arg10 harg10 x0 x1 x2 xs1 xs2)) = _ :=
    (View.read_writes_full arg10.view (harg10.unread xs2) inb_S640x128_S640x128_0_0 _ []).trans e2
  have w3 : arg11.view.read (Elt F) (arg11.view.writes (Elt F) (harg11.unread xs3) (bodyRun_C.sl.HS3_1 c i arg1 harg1 arg2 harg2 arg3 harg3 arg8 arg9 harg9 arg11 harg11 x0 x1 x2 xs1 xs3)) = _ :=
    (View.read_writes_full arg11.view (harg11.unread xs3) inb_S640x128_S640x128_0_0 _ []).trans e3
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact q3
    · iexact H3
  isplitl [H4]
  · iexists _; isplitr
    · ipureintro; exact q4
    · iexact H4
  isplitl [H5]
  · iexists _; isplitr
    · ipureintro; exact q5
    · iexact H5
  isplitl [H6]
  · iexists _; isplitr
    · ipureintro; exact hR
    · iexact H6
  isplitl [HS0]
  · iexists (arg8.view.read (Elt F) (arg8.view.writes (Elt F) fs0 (bodyRun_C.sl.HS0_48 c arg2 harg2 arg3 harg3 x1 x2)))
    iexists _; isplitr
    · ipureintro; rfl
    · iexact HS0
  isplitl [HS1]
  · iexists _; isplitr
    · ipureintro; exact w1
    · iexact HS1
  isplitl [HS2]
  · iexists _; isplitr
    · ipureintro; exact w2
    · iexact HS2
  iexists _; isplitr
  · ipureintro; exact w3
  · iexact HS3

end Cert.Kernel.Gen

end
-- ==== Proof.BitsFrame.lean ====
module

public import Idealize.ShloMosaic.Lib.Claim
public import proofs.«01_k».proof.Proof.BitsRunA
public import proofs.«01_k».proof.Proof.BitsRunB
public import proofs.«01_k».proof.Proof.BitsRunC

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the running values hold after each point -/

/-- The block of logits of point `t`, on core `c`. -/
def blk (c : Dev nD) (t : Fin cfg0.N) : FVec F S640x512 .f32 := acc (iblk m c 0 t) (iblk m c 1 t) (iblk m c 2 t)

/-- The three running values after point `n`: the largest, the second largest and the block of the largest. -/
def state (c : Dev nD) : (n : ℕ) → n < cfg0.N → Vec F S640x128 .f32 × Vec F S640x128 .f32 × Vec F S640x128 .i32
  | 0, hn => (st1 (blk m c ⟨0, hn⟩) k0_pay9, st2 (blk m c ⟨0, hn⟩) k0_pay9 k0_pay10, st3 (grid0.coords ⟨0, hn⟩) (blk m c ⟨0, hn⟩) k0_pay9 k0_pay11)
  | n + 1, hn =>
    (st1 (blk m c ⟨n + 1, hn⟩) (state c n (Nat.lt_of_succ_lt hn)).1,
     st2 (blk m c ⟨n + 1, hn⟩) (state c n (Nat.lt_of_succ_lt hn)).1 (state c n (Nat.lt_of_succ_lt hn)).2.1,
     st3 (grid0.coords ⟨n + 1, hn⟩) (blk m c ⟨n + 1, hn⟩) (state c n (Nat.lt_of_succ_lt hn)).1 (state c n (Nat.lt_of_succ_lt hn)).2.2)

/-- At the first point the running values start over. -/
theorem state_first (c : Dev nD) (t : Fin cfg0.N) (h : t.val = 0) :
    state m c t.val t.isLt = (st1 (blk m c t) k0_pay9, st2 (blk m c t) k0_pay9 k0_pay10, st3 (grid0.coords t) (blk m c t) k0_pay9 k0_pay11) := by
  obtain ⟨n, hn⟩ := t
  cases n with
  | zero => rfl
  | succ n => exact absurd h (Nat.succ_ne_zero n)

/-- At every other point they go on from the point before. -/
theorem state_next (c : Dev nD) (t : Fin cfg0.N) (h : t.val ≠ 0) :
    state m c t.val t.isLt = (st1 (blk m c t) (state m c (t.val - 1) (Nat.lt_of_le_of_lt (Nat.sub_le _ _) t.isLt)).1,
      st2 (blk m c t) (state m c (t.val - 1) (Nat.lt_of_le_of_lt (Nat.sub_le _ _) t.isLt)).1 (state m c (t.val - 1) (Nat.lt_of_le_of_lt (Nat.sub_le _ _) t.isLt)).2.1,
      st3 (grid0.coords t) (blk m c t) (state m c (t.val - 1) (Nat.lt_of_le_of_lt (Nat.sub_le _ _) t.isLt)).1 (state m c (t.val - 1) (Nat.lt_of_le_of_lt (Nat.sub_le _ _) t.isLt)).2.2) := by
  obtain ⟨n, hn⟩ := t
  cases n with
  | zero => exact absurd rfl h
  | succ n => rfl

/-- What is held between the points: before the first the scratch buffers at anything, afterwards the three running values
    as the point before left them, the expanded weights at anything, and the generator register at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((state m c n hn).1) ∗ owns (c : Thread nD τ) scM0_2 fullShare ((state m c n hn).2.1) ∗ owns (c : Thread nD τ) scM0_3 fullShare ((state m c n hn).2.2)) ∗ (∃ r, prngReg c r))

/-- Before the first point the scratch buffers are at anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((state m c n hn).1) ∗ owns (c : Thread nD τ) scM0_2 fullShare ((state m c n hn).2.1) ∗ owns (c : Thread nD τ) scM0_3 fullShare ((state m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((state m c (n - 1) (by omega)).1) ∗ owns (c : Thread nD τ) scM0_2 fullShare ((state m c (n - 1) (by omega)).2.1) ∗ owns (c : Thread nD τ) scM0_3 fullShare ((state m c (n - 1) (by omega)).2.2)) ∗ (∃ r, prngReg c r)) := by
  cases n with
  | zero => exact absurd rfl hz
  | succ n => rfl

/-! ## The pipeline's proof data -/

/-- The proof data of the pipeline on core `c`: the arrays as the region finds them; after the body at point `t` each input's
    buffer at its block, the three small outputs at what the running values give, the block of logits in the last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay7 (state m c t.val t.isLt).1 (state m c t.val t.isLt).2.2
    | ⟨4, _⟩ => k0_pay8 (state m c t.val t.isLt).1 (state m c t.val t.isLt).2.1 (state m c t.val t.isLt).2.2
    | ⟨5, _⟩ => k0_pay6 (state m c t.val t.isLt).1
    | ⟨6, _⟩ => lgB (blk m c t)
  Φ t := PhiS m c t.val (Nat.le_of_lt_succ t.isLt)
  q _ := fullShare
  owed _ := 0

/-- The proof data's arrays are the contents the region finds. -/
theorem A_eq (c : Dev nD) (w : Fin cfg0.W) : (dats m 0 c).A w = V m c (Pipeline.arrRef spec0 w) := by
  dsimp only [dats]

/-- What is held at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay7 (state m c t.val t.isLt).1 (state m c t.val t.isLt).2.2 := by dsimp only [dats]
theorem after0_4 (c : Dev nD) (t : Fin cfg0.N) : (dats m 0 c).after 4 t = k0_pay8 (state m c t.val t.isLt).1 (state m c t.val t.isLt).2.1 (state m c t.val t.isLt).2.2 := by dsimp only [dats]
theorem after0_5 (c : Dev nD) (t : Fin cfg0.N) : (dats m 0 c).after 5 t = k0_pay6 (state m c t.val t.isLt).1 := by dsimp only [dats]
theorem after0_6 (c : Dev nD) (t : Fin cfg0.N) : (dats m 0 c).after 6 t = lgB (blk m c t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at the first point, from what the pipeline hands it to what it takes back. -/
theorem sound_body_A (c : Dev nD) (t : Fin cfg0.N) (hc0 : cond0_0 (grid0.coords t)) (hc1 : ¬cond0_1 (grid0.coords t)) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [Dat.leavesExact_idle (dats m 0 c) 3 t (idleAt0_3_A t hc0 hc1) (noFlush0_3_A t hc0 hc1)]
  rw [Dat.leavesExact_idle (dats m 0 c) 4 t (idleAt0_4_A t hc0 hc1) (noFlush0_4_A t hc0 hc1)]
  rw [Dat.leavesExact_idle (dats m 0 c) 5 t (idleAt0_5_A t hc0 hc1) (noFlush0_5_A t hc0 hc1)]
  rw [show (dats m 0 c).leavesExact 6 t = owns (c : Thread nD τ) (ms0_6 t) fullShare ((dats m 0 c).after 6 t) from by
    unfold Dat.leavesExact; rw [liveAt0_6 t], after0_6]
  rw [PhiS_castSucc m c t, PhiS_zero m c _ _ hz, PhiA0_eq, state_first m c t hz]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  ihave H6 := (outR_any (F := F) c (ms0_6 t) (hs0_6 t)) $$ [H6]
  · iexists _; iexact H6
  iapply (bodyRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk m c 0 t) (iblk m c 1 t) (iblk m c 2 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  iapply (outR_owns (F := F) c (ms0_6 t) (hs0_6 t) (blk m c t)) $$ [H6]
  iexact H6

set_option maxHeartbeats 3200000 in
/-- The body at a middle point, from what the pipeline hands it to what it takes back. -/
theorem sound_body_B (c : Dev nD) (t : Fin cfg0.N) (hc0 : ¬cond0_0 (grid0.coords t)) (hc1 : ¬cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [Dat.leavesExact_idle (dats m 0 c) 3 t (idleAt0_3_B t hc0 hc1) (noFlush0_3_B t hc0 hc1)]
  rw [Dat.leavesExact_idle (dats m 0 c) 4 t (idleAt0_4_B t hc0 hc1) (noFlush0_4_B t hc0 hc1)]
  rw [Dat.leavesExact_idle (dats m 0 c) 5 t (idleAt0_5_B t hc0 hc1) (noFlush0_5_B t hc0 hc1)]
  rw [show (dats m 0 c).leavesExact 6 t = owns (c : Thread nD τ) (ms0_6 t) fullShare ((dats m 0 c).after 6 t) from by
    unfold Dat.leavesExact; rw [liveAt0_6 t], after0_6]
  rw [PhiS_castSucc m c t, PhiS_pos m c _ _ hz, state_next m c t hz]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  ihave H6 := (outR_any (F := F) c (ms0_6 t) (hs0_6 t)) $$ [H6]
  · iexists _; iexact H6
  iapply (bodyRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk m c 0 t) (iblk m c 1 t) (iblk m c 2 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  iapply (outR_owns (F := F) c (ms0_6 t) (hs0_6 t) (blk m c t)) $$ [H6]
  iexact H6

set_option maxHeartbeats 3200000 in
/-- The body at the last point, from what the pipeline hands it to what it takes back. -/
theorem sound_body_C (c : Dev nD) (t : Fin cfg0.N) (hc0 : ¬cond0_0 (grid0.coords t)) (hc1 : cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3_C t hc0 hc1], after0_3]
  rw [show (dats m 0 c).leavesExact 4 t = owns (c : Thread nD τ) (ms0_4 t) fullShare ((dats m 0 c).after 4 t) from by
    unfold Dat.leavesExact; rw [liveAt0_4_C t hc0 hc1], after0_4]
  rw [show (dats m 0 c).leavesExact 5 t = owns (c : Thread nD τ) (ms0_5 t) fullShare ((dats m 0 c).after 5 t) from by
    unfold Dat.leavesExact; rw [liveAt0_5_C t hc0 hc1], after0_5]
  rw [show (dats m 0 c).leavesExact 6 t = owns (c : Thread nD τ) (ms0_6 t) fullShare ((dats m 0 c).after 6 t) from by
    unfold Dat.leavesExact; rw [liveAt0_6 t], after0_6]
  rw [PhiS_castSucc m c t, PhiS_pos m c _ _ hz, state_next m c t hz]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  ihave H6 := (outR_any (F := F) c (ms0_6 t) (hs0_6 t)) $$ [H6]
  · iexists _; iexact H6
  iapply (bodyRun_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk m c 0 t) (iblk m c 1 t) (iblk m c 2 t) _ _ _ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (outR_owns (F := F) c (ms0_6 t) (hs0_6 t) (blk m c t)) $$ [H6]
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  by_cases h0 : t.val % 64 = 0
  · exact sound_body_A m c t ((hcond0_0 t).mpr h0) (fun h => by have := (hcond0_1 t).mp h; omega) (by omega)
  · by_cases h1 : t.val % 64 = 63
    · exact sound_body_C m c t (fun h => h0 ((hcond0_0 t).mp h)) ((hcond0_1 t).mpr h1) (by omega)
    · exact sound_body_B m c t (fun h => h0 ((hcond0_0 t).mp h)) (fun h => h1 ((hcond0_1 t).mp h)) (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run terminates, leaves the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.IdealCases.lean ====
/-
  The body's three cases over the grid (first point, middle points, last point), the windows' idle points, and the
  staging and scratch memrefs the runs are stated over.
-/
module

public import proofs.«01_k».proof.Proof.Gen.KernelIdeal.Skeleton
public import proofs.«01_k».proof.Proof.Gen.KernelIdeal.Frame
public import Idealize.ShloMosaic.Lib.Pointwise.Index
public import Idealize.ShloMosaic.Lib.VecWindow
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 3 idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cfg0.idle 3 (grid0.coords t) = false := by decide +kernel
/-- At the points of case A the printed configuration (`Cfg.idle`) calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B the printed configuration (`Cfg.idle`) calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C the printed configuration (`Cfg.idle`) calls output 4 live: the case stores into it. -/
theorem liveAt0_4_C : ∀ t : Fin cfg0.N, ¬cond0_0 (grid0.coords t) → cond0_1 (grid0.coords t) → cfg0.idle 4 (grid0.coords t) = false := by decide +kernel
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 3, through which its contents are stated (`View.read_writes_of_cover`: the
    choice does not matter). -/
abbrev VO0_3 : View sig .tc .vmem S1x640 .i32 := (Memref.whole cc0_stg3_0 : Memref sig .tc .vmem S1x640 .i32).view
/-- One staging buffer of output window 4, through which its contents are stated (`View.read_writes_of_cover`: the
    choice does not matter). -/
abbrev VO0_4 : View sig .tc .vmem S1x640 .f32 := (Memref.whole cc0_stg4_0 : Memref sig .tc .vmem S1x640 .f32).view
/-- One staging buffer of output window 5, through which its contents are stated (`View.read_writes_of_cover`: the
    choice does not matter). -/
abbrev VO0_5 : View sig .tc .vmem S1x640 .f32 := (Memref.whole cc0_stg5_0 : Memref sig .tc .vmem S1x640 .f32).view
/-- One staging buffer of output window 6, through which its contents are stated (`View.read_writes_of_cover`: the
    choice does not matter). -/
abbrev VO0_6 : View sig .tc .vmem S640x1x4x128 .f32 := (Memref.whole cc0_stg6_0 : Memref sig .tc .vmem S640x1x4x128 .f32).view
/-- Each window's current staging memref at point `t`, spelled as the pipeline passes it (`bodyAt0`), and its wholeness. -/
abbrev ms0_0 (t : Fin cfg0.N) : Memref sig .tc .vmem S640x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x640 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x1x4x128 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S6144x512 .bf16 := Memref.whole cc0_scratch0
abbrev scM0_1 : Memref sig .tc .vmem S640x128 .f32 := Memref.whole cc0_scratch1
abbrev scM0_2 : Memref sig .tc .vmem S640x128 .f32 := Memref.whole cc0_scratch2
abbrev scM0_3 : Memref sig .tc .vmem S640x128 .i32 := Memref.whole cc0_scratch3
/-- The scratch `arg9` the kernel carries between points, as a view: what it holds is stated through it. -/
abbrev VS0_1 : View sig .tc .vmem S640x128 .f32 := scM0_1.view
/-- The scratch `arg10` the kernel carries between points, as a view: what it holds is stated through it. -/
abbrev VS0_2 : View sig .tc .vmem S640x128 .f32 := scM0_2.view
/-- The scratch `arg11` the kernel carries between points, as a view: what it holds is stated through it. -/
abbrev VS0_3 : View sig .tc .vmem S640x128 .i32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What one grid point computes -/

/-- The 128 dequantised rows of one scale group: the int4 rows of its 16 rows of words, times its row of scales. -/
def slab (v3 : Vec F S16x512 .i32) (v16 : Vec F S1x512 .bf16) : FVec F S128x512 .bf16 := k0_pay12 v3 v16

theorem rows16_inb (n : ℕ) (h : n + 1 ≤ 48) : ∀ a, (![16 * n, 0] : Fin 2 → ℕ) a + S16x512.size a ≤ S768x512.size a := by
  intro a; fin_cases a
  · show 16 * n + 16 ≤ 768; omega
  · show 0 + 512 ≤ 512; omega
theorem row1_inb (n : ℕ) (h : n + 1 ≤ 48) : ∀ a, (![n, 0] : Fin 2 → ℕ) a + S1x512.size a ≤ S48x512.size a := by
  intro a; fin_cases a
  · show n + 1 ≤ 48; omega
  · show 0 + 512 ≤ 512; omega
theorem rows128_inb (n : ℕ) (h : n + 1 ≤ 48) : ∀ a, (![128 * n, 0] : Fin 2 → ℕ) a + S128x512.size a ≤ S6144x512.size a := by
  intro a; fin_cases a
  · show 128 * n + 128 ≤ 6144; omega
  · show 0 + 512 ≤ 512; omega

/-- Group `n`'s 16 rows of words. -/
def rows16 (x1 : Vec F S768x512 .i32) (n : ℕ) (h : n + 1 ≤ 48) : Vec F S16x512 .i32 :=
  fun z => x1 ((Rect.unit (s := S768x512) ![16 * n, 0] S16x512.size (rows16_inb n h)).toLoadRect.idx z)
/-- Group `n`'s row of scales. -/
def row1 (x2 : Vec F S48x512 .bf16) (n : ℕ) (h : n + 1 ≤ 48) : Vec F S1x512 .bf16 :=
  fun z => x2 ((Rect.unit (s := S48x512) ![n, 0] S1x512.size (row1_inb n h)).toLoadRect.idx z)

/-- The stores of the first `n` groups into the weight scratch, last first. -/
def slabs (arg2 : Memref sig .tc .vmem S768x512 .i32) (harg2 : arg2.IsWhole) (arg3 : Memref sig .tc .vmem S48x512 .bf16) (harg3 : arg3.IsWhole)
    (x1 : Vec F S768x512 .i32) (x2 : Vec F S48x512 .bf16) : (n : ℕ) → n ≤ 48 → List (View.Piece (Elt F) S6144x512 .bf16)
  | 0, _ => []
  | n + 1, h => ⟨Rect.unit (s := S6144x512) ![128 * n, 0] S128x512.size (rows128_inb n h),
      slab (View.readAt (Elt F) arg2.view (Rect.unit (s := S768x512) ![16 * n, 0] S16x512.size (rows16_inb n h)).toLoadRect (harg2.unread x1))
        (View.readAt (Elt F) arg3.view (Rect.unit (s := S48x512) ![n, 0] S1x512.size (row1_inb n h)).toLoadRect (harg3.unread x2))⟩
      :: slabs arg2 harg2 arg3 harg3 x1 x2 n (Nat.le_of_succ_le h)

/-- The block of weights of one point: row `d` is row `d % 128` of group `d / 128`. -/
def wblk (x1 : Vec F S768x512 .i32) (x2 : Vec F S48x512 .bf16) : Vec F S6144x512 .bf16 := fun y =>
  have h : (y 0).val / 128 + 1 ≤ 48 := by have h : (y 0).val < 6144 := (y 0).isLt; omega
  slab (rows16 x1 ((y 0).val / 128) h) (row1 x2 ((y 0).val / 128) h) (ix2 ⟨(y 0).val % 128, Nat.mod_lt _ (by decide)⟩ (y 1))

theorem slabs_pieces (arg2 : Memref sig .tc .vmem S768x512 .i32) (harg2 : arg2.IsWhole) (arg3 : Memref sig .tc .vmem S48x512 .bf16) (harg3 : arg3.IsWhole)
    (x1 : Vec F S768x512 .i32) (x2 : Vec F S48x512 .bf16) : ∀ (n : ℕ) (hn : n ≤ 48), ∀ p ∈ slabs arg2 harg2 arg3 harg3 x1 x2 n hn,
      ∀ x : p.1.shape.Idx, p.2 x = wblk x1 x2 (p.1.emb x)
  | 0, _, p, hp, _ => absurd hp List.not_mem_nil
  | n + 1, h, p, hp, x => by
    rcases List.mem_cons.mp hp with rfl | hp
    · have e0 : ((Rect.unit (s := S6144x512) ![128 * n, 0] S128x512.size (rows128_inb n h)).emb x 0).val = 128 * n + 1 * (x 0).val := rfl
      have e1 : ((Rect.unit (s := S6144x512) ![128 * n, 0] S128x512.size (rows128_inb n h)).emb x 1).val = 0 + 1 * (x 1).val := rfl
      have hx0 : (x 0).val < 128 := (x 0).isLt
      have hd : ((Rect.unit (s := S6144x512) ![128 * n, 0] S128x512.size (rows128_inb n h)).emb x 0).val / 128 = n := by rw [e0]; omega
      have hm : ((Rect.unit (s := S6144x512) ![128 * n, 0] S128x512.size (rows128_inb n h)).emb x 0).val % 128 = (x 0).val := by rw [e0]; omega
      have h2 : View.readAt (Elt F) arg2.view (Rect.unit (s := S768x512) ![16 * n, 0] S16x512.size (rows16_inb n h)).toLoadRect (harg2.unread x1)
          = rows16 x1 n h := funext fun z => harg2.readAt_unread x1 _ z
      have h3 : View.readAt (Elt F) arg3.view (Rect.unit (s := S48x512) ![n, 0] S1x512.size (row1_inb n h)).toLoadRect (harg3.unread x2)
          = row1 x2 n h := funext fun z => harg3.readAt_unread x2 _ z
      show slab (View.readAt (Elt F) arg2.view (Rect.unit (s := S768x512) ![16 * n, 0] S16x512.size (rows16_inb n h)).toLoadRect (harg2.unread x1))
        (View.readAt (Elt F) arg3.view (Rect.unit (s := S48x512) ![n, 0] S1x512.size (row1_inb n h)).toLoadRect (harg3.unread x2)) x = _
      rw [h2, h3]
      unfold wblk
      have key : ∀ (k : ℕ) (hk : k + 1 ≤ 48) (e : k = n) (z : S128x512.Idx), z = x → slab (rows16 x1 n h) (row1 x2 n h) x = slab (rows16 x1 k hk) (row1 x2 k hk) z := by
        rintro k hk rfl z rfl; rfl
      refine key _ _ hd _ ?_
      funext a; fin_cases a
      · exact Fin.ext hm
      · exact Fin.ext (e1.trans ((Nat.zero_add _).trans (Nat.one_mul _)))
    · exact slabs_pieces arg2 harg2 arg3 harg3 x1 x2 n _ p hp x

theorem slabs_cover (arg2 : Memref sig .tc .vmem S768x512 .i32) (harg2 : arg2.IsWhole) (arg3 : Memref sig .tc .vmem S48x512 .bf16) (harg3 : arg3.IsWhole)
    (x1 : Vec F S768x512 .i32) (x2 : Vec F S48x512 .bf16) (y : S6144x512.Idx) : ∀ (n : ℕ) (hn : n ≤ 48), (y 0).val < 128 * n →
      ∃ p ∈ slabs arg2 harg2 arg3 harg3 x1 x2 n hn, y ∈ p.1.set
  | 0, _, hy => by omega
  | n + 1, h, hy => by
    by_cases hlt : (y 0).val < 128 * n
    · obtain ⟨p, hp, hm⟩ := slabs_cover arg2 harg2 arg3 harg3 x1 x2 y n (Nat.le_of_succ_le h) hlt
      exact ⟨p, List.mem_cons_of_mem _ hp, hm⟩
    · refine ⟨_, List.mem_cons_self, ?_⟩
      refine (Rect.mem_set_unit (inb := rows128_inb n h)).mpr fun a => ?_
      fin_cases a
      · show 128 * n ≤ (y 0).val ∧ (y 0).val < 128 * n + 128; omega
      · have : (y 1).val < 512 := (y 1).isLt
        show 0 ≤ (y 1).val ∧ (y 1).val < 0 + 512; omega

/-- The whole scratch after the 48 stores, loaded back, is the block of weights. -/
theorem slabs_read (arg8 : Memref sig .tc .vmem S6144x512 .bf16)
    (arg2 : Memref sig .tc .vmem S768x512 .i32) (harg2 : arg2.IsWhole) (arg3 : Memref sig .tc .vmem S48x512 .bf16) (harg3 : arg3.IsWhole)
    (x1 : Vec F S768x512 .i32) (x2 : Vec F S48x512 .bf16) (inb : ∀ a, (![0, 0] : Fin 2 → ℕ) a + S6144x512.size a ≤ S6144x512.size a) :
    arg8.view.readCov (slabs arg2 harg2 arg3 harg3 x1 x2 48 le_rfl) (Rect.unit (s := S6144x512) ![0, 0] S6144x512.size inb).toLoadRect = wblk x1 x2 := by
  unfold View.readCov
  rw [View.readAt_full]
  funext y
  exact View.read_writes_apply_of_pieces _ _ _ _ (slabs_pieces arg2 harg2 arg3 harg3 x1 x2 48 le_rfl) y
    (slabs_cover arg2 harg2 arg3 harg3 x1 x2 y 48 le_rfl (y 0).isLt)

/-- The point's block of logits. -/
def acc (x0 : Vec F S640x6144 .bf16) (x1 : Vec F S768x512 .i32) (x2 : Vec F S48x512 .bf16) : FVec F S640x512 .f32 := k0_pay85 x0 (wblk x1 x2)
/-- The running largest value of each lane, after a block of logits. -/
def st1 (a : FVec F S640x512 .f32) (s1 : Vec F S640x128 .f32) : Vec F S640x128 .f32 := k0_pay1 (k0_pay99 a s1)
/-- The running second largest value of each lane. -/
def st2 (a : FVec F S640x512 .f32) (s1 s2 : Vec F S640x128 .f32) : Vec F S640x128 .f32 := k0_pay2 (k0_pay97 a s1 s2)
/-- The column block where each lane first met its largest value. -/
def st3 (i : grid0.Coords) (a : FVec F S640x512 .f32) (s1 : Vec F S640x128 .f32) (s3 : Vec F S640x128 .i32) : Vec F S640x128 .i32 :=
  k0_pay3 (k0_pay98 (BitVec.ofNat 32 (i 0).val) a s1 s3)
/-- The block of logits as the output's rows, four to a batch row. -/
def lgR (a : FVec F S640x512 .f32) : Vec F S2560x128 .f32 := fun z =>
  a (ix2 ⟨(z 0).val / 4, by have h : (z 0).val < 2560 := (z 0).isLt; omega⟩
    ⟨(z 0).val % 4 * 128 + (z 1).val, by have h : (z 1).val < 128 := (z 1).isLt; omega⟩)
/-- The block of logits as the output's block. -/
def lgB (a : FVec F S640x512 .f32) : Vec F S640x1x4x128 .f32 := fun y =>
  a (ix2 (y 0) ⟨(y 2).val * 128 + (y 3).val, by have h : (y 2).val < 4 := (y 2).isLt; have h' : (y 3).val < 128 := (y 3).isLt; omega⟩)

/-- The output buffer as the body stores into it. -/
abbrev outR (arg7 : Memref sig .tc .vmem S640x1x4x128 .f32) (harg7 : arg7.IsWhole) : Memref sig .tc .vmem S2560x128 .f32 :=
  arg7.reshape S2560x128 reshapes_S640x1x4x128_S2560x128.1 reshapes_S640x1x4x128_S2560x128.2 harg7.contiguous

/-- Column strip `c` of the logits, stored at rows `4 r + c`, agrees with the output's rows. -/
theorem strip_piece (a : FVec F S640x512 .f32) (c o : ℕ) (hc : c < 4) (ho : o = 128 * c)
    (inb : ∀ b, S640x128.size b = 0 ∨ (![c, 0] : Fin 2 → ℕ) b + (![4, 1] : Fin 2 → ℕ) b * (S640x128.size b - 1) < S2560x128.size b) (sp : ∀ b, 0 < (![4, 1] : Fin 2 → ℕ) b)
    (h : Shape.Slices S640x512 ![0, o] S640x128) (x : S640x128.Idx) :
    extractStridedSlice S640x128 ![0, o] a h x = lgR a ((⟨(⟨![c, 0], S640x128.size, ![4, 1], inb⟩ : LoadRect S2560x128), sp⟩ : Rect S2560x128).emb x) := by
  subst ho
  have hx0 : (x 0).val < 640 := (x 0).isLt
  have hx1 : (x 1).val < 128 := (x 1).isLt
  unfold lgR
  refine congrArg a ?_
  have e0 : ((⟨(⟨![c, 0], S640x128.size, ![4, 1], inb⟩ : LoadRect S2560x128), sp⟩ : Rect S2560x128).emb x 0).val = c + 4 * (x 0).val := rfl
  have e1 : ((⟨(⟨![c, 0], S640x128.size, ![4, 1], inb⟩ : LoadRect S2560x128), sp⟩ : Rect S2560x128).emb x 1).val = 0 + 1 * (x 1).val := rfl
  funext b; fin_cases b
  · refine Fin.ext ?_
    show 0 + (x 0).val = ((⟨(⟨![c, 0], S640x128.size, ![4, 1], inb⟩ : LoadRect S2560x128), sp⟩ : Rect S2560x128).emb x 0).val / 4
    rw [e0]; omega
  · refine Fin.ext ?_
    show 128 * c + (x 1).val = ((⟨(⟨![c, 0], S640x128.size, ![4, 1], inb⟩ : LoadRect S2560x128), sp⟩ : Rect S2560x128).emb x 0).val % 4 * 128
      + ((⟨(⟨![c, 0], S640x128.size, ![4, 1], inb⟩ : LoadRect S2560x128), sp⟩ : Rect S2560x128).emb x 1).val
    rw [e0, e1]; omega

/-- The four strided stores cover the output's rows and leave the block of logits there. -/
theorem lgR_read (v : View sig .tc .vmem S2560x128 .f32) (f : v.ty.Contents (Elt F)) (x0 : Vec F S640x6144 .bf16) (w : Vec F S6144x512 .bf16) :
    v.read (Elt F) (v.writes (Elt F) f
      [⟨⟨(⟨![3, 0], S640x128.size, ![4, 1], inb_S2560x128_S640x128_3_0_s_4_1⟩ : LoadRect S2560x128), spos_4_1⟩, k0_pay89 x0 w⟩,
       ⟨⟨(⟨![2, 0], S640x128.size, ![4, 1], inb_S2560x128_S640x128_2_0_s_4_1⟩ : LoadRect S2560x128), spos_4_1⟩, k0_pay88 x0 w⟩,
       ⟨⟨(⟨![1, 0], S640x128.size, ![4, 1], inb_S2560x128_S640x128_1_0_s_4_1⟩ : LoadRect S2560x128), spos_4_1⟩, k0_pay87 x0 w⟩,
       ⟨⟨(⟨![0, 0], S640x128.size, ![4, 1], inb_S2560x128_S640x128_0_0_s_4_1⟩ : LoadRect S2560x128), spos_4_1⟩, k0_pay86 x0 w⟩]) = lgR (k0_pay85 x0 w) := by
  funext y
  refine View.read_writes_apply_of_pieces _ _ _ _ ?_ y ?_
  · intro p hp x
    simp only [List.mem_cons, List.mem_nil_iff, or_false] at hp
    rcases hp with rfl | rfl | rfl | rfl
    · exact strip_piece _ 3 384 (by omega) rfl inb_S2560x128_S640x128_3_0_s_4_1 spos_4_1 slices_S640x512_o0_384_S640x128 x
    · exact strip_piece _ 2 256 (by omega) rfl inb_S2560x128_S640x128_2_0_s_4_1 spos_4_1 slices_S640x512_o0_256_S640x128 x
    · exact strip_piece _ 1 128 (by omega) rfl inb_S2560x128_S640x128_1_0_s_4_1 spos_4_1 slices_S640x512_o0_128_S640x128 x
    · exact strip_piece _ 0 0 (by omega) rfl inb_S2560x128_S640x128_0_0_s_4_1 spos_4_1 slices_S640x512_o0_0_S640x128 x
  · have hy0 : (y 0).val < 2560 := (y 0).isLt
    have hy1 : (y 1).val < 128 := (y 1).isLt
    have key : ∀ (c : ℕ) (inb : ∀ b, S640x128.size b = 0 ∨ (![c, 0] : Fin 2 → ℕ) b + (![4, 1] : Fin 2 → ℕ) b * (S640x128.size b - 1) < S2560x128.size b), (y 0).val % 4 = c →
        y ∈ (⟨(⟨![c, 0], S640x128.size, ![4, 1], inb⟩ : LoadRect S2560x128), spos_4_1⟩ : Rect S2560x128).set := fun c inb hc => by
      refine (LoadRect.mem_set _).mpr fun b => ?_
      fin_cases b
      · exact ⟨(y 0).val / 4, by show _ < 640; omega, by show (y 0).val = c + 4 * ((y 0).val / 4); omega⟩
      · exact ⟨(y 1).val, hy1, by show (y 1).val = 0 + 1 * (y 1).val; omega⟩
    have h4 : (y 0).val % 4 = 3 ∨ (y 0).val % 4 = 2 ∨ (y 0).val % 4 = 1 ∨ (y 0).val % 4 = 0 := by omega
    rcases h4 with h | h | h | h
    · exact ⟨_, List.mem_cons_self, key 3 _ h⟩
    · exact ⟨_, List.mem_cons_of_mem _ List.mem_cons_self, key 2 _ h⟩
    · exact ⟨_, List.mem_cons_of_mem _ (List.mem_cons_of_mem _ List.mem_cons_self), key 1 _ h⟩
    · exact ⟨_, List.mem_cons_of_mem _ (List.mem_cons_of_mem _ (List.mem_cons_of_mem _ List.mem_cons_self)), key 0 _ h⟩

/-- Reading the output through its own block shape and through its rows is one and the same block of logits. -/
theorem outR_owns (c : Dev nD) (arg7 : Memref sig .tc .vmem S640x1x4x128 .f32) (harg7 : arg7.IsWhole) (a : FVec F S640x512 .f32) :
    (owns (c : Thread nD τ) (outR arg7 harg7) fullShare (lgR a) : sProp 𝕄) ⊢ owns (c : Thread nD τ) arg7 fullShare (lgB a) := by
  have hs : (outR arg7 harg7).view.set = arg7.view.set := View.set_reshape _ _
  unfold owns
  rw [hs]
  iintro ⟨%f, %hf, H⟩
  iexists f
  isplitr
  · ipureintro
    funext y
    have hy0 : (y 0).val < 640 := (y 0).isLt
    have hy1 : (y 1).val < 1 := (y 1).isLt
    have hy2 : (y 2).val < 4 := (y 2).isLt
    have hy3 : (y 3).val < 128 := (y 3).isLt
    let z : S2560x128.Idx := ix2 (⟨(y 0).val * 4 + (y 2).val, by omega⟩ : Fin 2560) (⟨(y 3).val, hy3⟩ : Fin 128)
    have hz : Shape.reshapeEquiv (s := S640x1x4x128) (s' := S2560x128) reshapes_S640x1x4x128_S2560x128.1 z = y := by
      refine Shape.reshapeEquiv_eq_of_rowMajor _ ?_
      rw [Shape.rowMajor_val_four, Shape.rowMajor_val_two]
      show (((y 0).val * 1 + (y 1).val) * 4 + (y 2).val) * 128 + (y 3).val = ((y 0).val * 4 + (y 2).val) * 128 + (y 3).val
      omega
    have e := congrFun hf z
    have e2 : arg7.view.read (Elt F) f (Shape.reshapeEquiv (s := S640x1x4x128) (s' := S2560x128) reshapes_S640x1x4x128_S2560x128.1 z) = lgR a z := e
    rw [hz] at e2
    rw [e2]
    unfold lgR lgB
    refine congrArg a ?_
    funext b; fin_cases b
    · exact Fin.ext (show ((y 0).val * 4 + (y 2).val) / 4 = (y 0).val by omega)
    · exact Fin.ext (show ((y 0).val * 4 + (y 2).val) % 4 * 128 + (y 3).val = (y 2).val * 128 + (y 3).val by omega)
  · iexact H

/-- The output buffer at anything is its rows at anything. -/
theorem outR_any (c : Dev nD) (arg7 : Memref sig .tc .vmem S640x1x4x128 .f32) (harg7 : arg7.IsWhole) :
    (iprop(∃ d, owns (c : Thread nD τ) arg7 fullShare d) : sProp 𝕄) ⊢ iprop(∃ d, owns (c : Thread nD τ) (outR arg7 harg7) fullShare d) := by
  have hs : (outR arg7 harg7).view.set = arg7.view.set := View.set_reshape _ _
  unfold owns
  rw [hs]
  iintro ⟨%d, %f, %hf, H⟩
  iexists (outR arg7 harg7).view.read (Elt F) f
  iexists f
  isplitr
  · ipureintro; rfl
  · iexact H

end Cert.KernelIdeal.Gen
-- ==== Proof.IdealRunA.lean ====
module

public import proofs.«01_k».proof.Proof.IdealCases

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the first point: the running values start over and take in the point's block. -/
theorem bodyRun_A (c : Dev nD) (i : grid0.Coords) (arg1 : Memref sig .tc .vmem S640x6144 .bf16) (harg1 : arg1.IsWhole) (arg2 : Memref sig .tc .vmem S768x512 .i32) (harg2 : arg2.IsWhole) (arg3 : Memref sig .tc .vmem S48x512 .bf16) (harg3 : arg3.IsWhole) (arg4 : Memref sig .tc .vmem S1x640 .i32) (harg4 : arg4.IsWhole) (arg5 : Memref sig .tc .vmem S1x640 .f32) (harg5 : arg5.IsWhole) (arg6 : Memref sig .tc .vmem S1x640 .f32) (harg6 : arg6.IsWhole) (arg7 : Memref sig .tc .vmem S640x1x4x128 .f32) (harg7 : arg7.IsWhole) (arg8 : Memref sig .tc .vmem S6144x512 .bf16) (harg8 : arg8.IsWhole) (arg9 : Memref sig .tc .vmem S640x128 .f32) (harg9 : arg9.IsWhole) (arg10 : Memref sig .tc .vmem S640x128 .f32) (harg10 : arg10.IsWhole) (arg11 : Memref sig .tc .vmem S640x128 .i32) (harg11 : arg11.IsWhole) (hc0 : cond0_0 i) (hc1 : ¬cond0_1 i)
    (x0 : Vec F S640x6144 .bf16) (x1 : Vec F S768x512 .i32) (x2 : Vec F S48x512 .bf16)
    (xi3 : Vec F S1x640 .i32) (xi4 : Vec F S1x640 .f32) (xi5 : Vec F S1x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ (∃ d, owns (c : Thread nD τ) (outR arg7 harg7) fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) (outR arg7 harg7) fullShare (lgR (acc x0 x1 x2)) ∗ (∃ d, owns (c : Thread nD τ) arg8 fullShare d) ∗ owns (c : Thread nD τ) arg9 fullShare (st1 (acc x0 x1 x2) k0_pay9) ∗ owns (c : Thread nD τ) arg10 fullShare (st2 (acc x0 x1 x2) k0_pay9 k0_pay10) ∗ owns (c : Thread nD τ) arg11 fullShare (st3 i (acc x0 x1 x2) k0_pay9 k0_pay11)) -∗ K ⟨⟩))
      ⊢ wp frame (wpE (defs₀ (F := F)) Variants.none c none) E (cc0_int4_head i arg1 harg1 arg2 harg2 arg3 harg3 arg4 harg4 arg5 harg5 arg6 harg6 arg7 harg7 arg8 harg8 arg9 harg9 arg10 harg10 arg11 harg11) K := by
  simp only [cc0_int4_head_eq_skeleton]; unfold cc0_int4_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0 | sl_exact hc1)
  sl_step
  have hL : bodyRun_A.sl.HS0_48 c arg2 harg2 arg3 harg3 x1 x2 = slabs arg2 harg2 arg3 harg3 x1 x2 48 le_rfl := rfl
  have hw : bodyRun_A.sl.v917 c arg2 harg2 arg3 harg3 arg8 x1 x2 = wblk x1 x2 := by
    unfold bodyRun_A.sl.v917; rw [hL]; exact slabs_read arg8 arg2 harg2 arg3 harg3 x1 x2 _
  have hx : View.readAt (Elt F) arg1.view (Rect.unit (s := S640x6144) ![0, 0] S640x6144.size inb_S640x6144_S640x6144_0_0).toLoadRect (harg1.unread x0) = x0 :=
    (View.readAt_full _ _ _).trans (harg1.read_unread _)
  have h9 : bodyRun_A.sl.v931 (F := F) c arg9 = k0_pay9 := View.readCov_full _ _ _ _ _
  have h10 : bodyRun_A.sl.v932 (F := F) c arg10 = k0_pay10 := View.readCov_full _ _ _ _ _
  have h11 : bodyRun_A.sl.v933 (F := F) c arg11 = k0_pay11 := View.readCov_full _ _ _ _ _
  have ea : bodyRun_A.sl.r_22 c arg1 harg1 arg2 harg2 arg3 harg3 arg8 x0 x1 x2 = acc x0 x1 x2 := by unfold bodyRun_A.sl.r_22; rw [hx, hw]; rfl
  have e1 : k0_pay1 (bodyRun_A.sl.r_26 c arg1 harg1 arg2 harg2 arg3 harg3 arg8 arg9 x0 x1 x2) = (st1 (acc x0 x1 x2) k0_pay9) := by unfold bodyRun_A.sl.r_26; rw [ea, h9]; rfl
  have e2 : k0_pay2 (bodyRun_A.sl.r_24 c arg1 harg1 arg2 harg2 arg3 harg3 arg8 arg9 arg10 x0 x1 x2) = (st2 (acc x0 x1 x2) k0_pay9 k0_pay10) := by unfold bodyRun_A.sl.r_24; rw [ea, h9, h10]; rfl
  have e3 : k0_pay3 (bodyRun_A.sl.r_25 c i arg1 harg1 arg2 harg2 arg3 harg3 arg8 arg9 arg11 x0 x1 x2) = (st3 i (acc x0 x1 x2) k0_pay9 k0_pay11) := by unfold bodyRun_A.sl.r_25; rw [ea, h9, h11]; rfl
  have e4 : bodyRun_A.sl.r_23 c arg1 harg1 arg2 harg2 arg3 harg3 arg8 x0 x1 x2 = k0_pay89 x0 (wblk x1 x2) := by unfold bodyRun_A.sl.r_23; rw [hx, hw]
  have hR : (outR arg7 harg7).view.read (Elt F) ((outR arg7 harg7).view.writes (Elt F) f6
      [⟨⟨(⟨![3, 0], S640x128.size, ![4, 1], inb_S2560x128_S640x128_3_0_s_4_1⟩ : LoadRect S2560x128), spos_4_1⟩, bodyRun_A.sl.r_23 c arg1 harg1 arg2 harg2 arg3 harg3 arg8 x0 x1 x2⟩,
       ⟨⟨(⟨![2, 0], S640x128.size, ![4, 1], inb_S2560x128_S640x128_2_0_s_4_1⟩ : LoadRect S2560x128), spos_4_1⟩, k0_pay88 (View.readAt (Elt F) arg1.view (Rect.unit (s := S640x6144) ![0, 0] S640x6144.size inb_S640x6144_S640x6144_0_0).toLoadRect (harg1.unread x0)) (bodyRun_A.sl.v917 c arg2 harg2 arg3 harg3 arg8 x1 x2)⟩,
       ⟨⟨(⟨![1, 0], S640x128.size, ![4, 1], inb_S2560x128_S640x128_1_0_s_4_1⟩ : LoadRect S2560x128), spos_4_1⟩, k0_pay87 (View.readAt (Elt F) arg1.view (Rect.unit (s := S640x6144) ![0, 0] S640x6144.size inb_S640x6144_S640x6144_0_0).toLoadRect (harg1.unread x0)) (bodyRun_A.sl.v917 c arg2 harg2 arg3 harg3 arg8 x1 x2)⟩,
       ⟨⟨(⟨![0, 0], S640x128.size, ![4, 1], inb_S2560x128_S640x128_0_0_s_4_1⟩ : LoadRect S2560x128), spos_4_1⟩, k0_pay86 (View.readAt (Elt F) arg1.view (Rect.unit (s := S640x6144) ![0, 0] S640x6144.size inb_S640x6144_S640x6144_0_0).toLoadRect (harg1.unread x0)) (bodyRun_A.sl.v917 c arg2 harg2 arg3 harg3 arg8 x1 x2)⟩]) = lgR (acc x0 x1 x2) := by
    rw [e4, hx, hw]; exact lgR_read _ _ x0 (wblk x1 x2)
  have w1 : arg9.view.read (Elt F) (arg9.view.writes (Elt F) fs1 (⟨Rect.unit (s := S640x128) ![0, 0] ![640, 128] inb_S640x128_S640x128_0_0, k0_pay1 (bodyRun_A.sl.r_26 c arg1 harg1 arg2 harg2 arg3 harg3 arg8 arg9 x0 x1 x2)⟩ :: bodyRun_A.sl.HS1_1)) = _ :=
    (View.read_writes_full arg9.view fs1 inb_S640x128_S640x128_0_0 _ bodyRun_A.sl.HS1_1).trans e1
  have w2 : arg10.view.read (Elt F) (arg10.view.writes (Elt F) fs2 (⟨Rect.unit (s := S640x128) ![0, 0] ![640, 128] inb_S640x128_S640x128_0_0, k0_pay2 (bodyRun_A.sl.r_24 c arg1 harg1 arg2 harg2 arg3 harg3 arg8 arg9 arg10 x0 x1 x2)⟩ :: bodyRun_A.sl.HS2_1)) = _ :=
    (View.read_writes_full arg10.view fs2 inb_S640x128_S640x128_0_0 _ bodyRun_A.sl.HS2_1).trans e2
  have w3 : arg11.view.read (Elt F) (arg11.view.writes (Elt F) fs3 (⟨Rect.unit (s := S640x128) ![0, 0] ![640, 128] inb_S640x128_S640x128_0_0, k0_pay3 (bodyRun_A.sl.r_25 c i arg1 harg1 arg2 harg2 arg3 harg3 arg8 arg9 arg11 x0 x1 x2)⟩ :: bodyRun_A.sl.HS3_1)) = _ :=
    (View.read_writes_full arg11.view fs3 inb_S640x128_S640x128_0_0 _ bodyRun_A.sl.HS3_1).trans e3
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact hR
    · iexact H6
  isplitl [HS0]
  · iexists (arg8.view.read (Elt F) (arg8.view.writes (Elt F) fs0 (bodyRun_A.sl.HS0_48 c arg2 harg2 arg3 harg3 x1 x2)))
    iexists _; isplitr
    · ipureintro; rfl
    · iexact HS0
  isplitl [HS1]
  · iexists _; isplitr
    · ipureintro; exact w1
    · iexact HS1
  isplitl [HS2]
  · iexists _; isplitr
    · ipureintro; exact w2
    · iexact HS2
  iexists _; isplitr
  · ipureintro; exact w3
  · iexact HS3

end Cert.KernelIdeal.Gen

end
-- ==== Proof.IdealRunB.lean ====
module

public import proofs.«01_k».proof.Proof.IdealCases

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a point that is neither first nor last: the running values take in the point's block of logits, which the output block receives. -/
theorem bodyRun_B (c : Dev nD) (i : grid0.Coords) (arg1 : Memref sig .tc .vmem S640x6144 .bf16) (harg1 : arg1.IsWhole) (arg2 : Memref sig .tc .vmem S768x512 .i32) (harg2 : arg2.IsWhole) (arg3 : Memref sig .tc .vmem S48x512 .bf16) (harg3 : arg3.IsWhole) (arg4 : Memref sig .tc .vmem S1x640 .i32) (harg4 : arg4.IsWhole) (arg5 : Memref sig .tc .vmem S1x640 .f32) (harg5 : arg5.IsWhole) (arg6 : Memref sig .tc .vmem S1x640 .f32) (harg6 : arg6.IsWhole) (arg7 : Memref sig .tc .vmem S640x1x4x128 .f32) (harg7 : arg7.IsWhole) (arg8 : Memref sig .tc .vmem S6144x512 .bf16) (harg8 : arg8.IsWhole) (arg9 : Memref sig .tc .vmem S640x128 .f32) (harg9 : arg9.IsWhole) (arg10 : Memref sig .tc .vmem S640x128 .f32) (harg10 : arg10.IsWhole) (arg11 : Memref sig .tc .vmem S640x128 .i32) (harg11 : arg11.IsWhole) (hc0 : ¬cond0_0 i) (hc1 : ¬cond0_1 i)
    (x0 : Vec F S640x6144 .bf16) (x1 : Vec F S768x512 .i32) (x2 : Vec F S48x512 .bf16) (xs1 : Vec F S640x128 .f32) (xs2 : Vec F S640x128 .f32) (xs3 : Vec F S640x128 .i32)
    (xi3 : Vec F S1x640 .i32) (xi4 : Vec F S1x640 .f32) (xi5 : Vec F S1x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ (∃ d, owns (c : Thread nD τ) (outR arg7 harg7) fullShare d) ∗ (∃ d, owns (c : Thread nD τ) arg8 fullShare d) ∗ owns (c : Thread nD τ) arg9 fullShare xs1 ∗ owns (c : Thread nD τ) arg10 fullShare xs2 ∗ owns (c : Thread nD τ) arg11 fullShare xs3
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xi5 ∗ owns (c : Thread nD τ) (outR arg7 harg7) fullShare (lgR (acc x0 x1 x2)) ∗ (∃ d, owns (c : Thread nD τ) arg8 fullShare d) ∗ owns (c : Thread nD τ) arg9 fullShare (st1 (acc x0 x1 x2) xs1) ∗ owns (c : Thread nD τ) arg10 fullShare (st2 (acc x0 x1 x2) xs1 xs2) ∗ owns (c : Thread nD τ) arg11 fullShare (st3 i (acc x0 x1 x2) xs1 xs3)) -∗ K ⟨⟩))
      ⊢ wp frame (wpE (defs₀ (F := F)) Variants.none c none) E (cc0_int4_head i arg1 harg1 arg2 harg2 arg3 harg3 arg4 harg4 arg5 harg5 arg6 harg6 arg7 harg7 arg8 harg8 arg9 harg9 arg10 harg10 arg11 harg11) K := by
  simp only [cc0_int4_head_eq_skeleton]; unfold cc0_int4_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1; obtain rfl := harg10.eq_unread hfs2; obtain rfl := harg11.eq_unread hfs3
  sl_exec (disch := first | sl_exact hc0 | sl_exact hc1)
  sl_step
  have hL : bodyRun_B.sl.HS0_48 c arg2 harg2 arg3 harg3 x1 x2 = slabs arg2 harg2 arg3 harg3 x1 x2 48 le_rfl := rfl
  have hw : bodyRun_B.sl.v917 c arg2 harg2 arg3 harg3 arg8 x1 x2 = wblk x1 x2 := by
    unfold bodyRun_B.sl.v917; rw [hL]; exact slabs_read arg8 arg2 harg2 arg3 harg3 x1 x2 _
  have hx : View.readAt (Elt F) arg1.view (Rect.unit (s := S640x6144) ![0, 0] S640x6144.size inb_S640x6144_S640x6144_0_0).toLoadRect (harg1.unread x0) = x0 :=
    (View.readAt_full _ _ _).trans (harg1.read_unread _)
  have h9 : View.readAt (Elt F) arg9.view (Rect.unit (s := S640x128) ![0, 0] S640x128.size inb_S640x128_S640x128_0_0).toLoadRect (harg9.unread xs1) = xs1 :=
    (View.readAt_full _ _ _).trans (harg9.read_unread _)
  have h10 : View.readAt (Elt F) arg10.view (Rect.unit (s := S640x128) ![0, 0] S640x128.size inb_S640x128_S640x128_0_0).toLoadRect (harg10.unread xs2) = xs2 :=
    (View.readAt_full _ _ _).trans (harg10.read_unread _)
  have h11 : View.readAt (Elt F) arg11.view (Rect.unit (s := S640x128) ![0, 0] S640x128.size inb_S640x128_S640x128_0_0).toLoadRect (harg11.unread xs3) = xs3 :=
    (View.readAt_full _ _ _).trans (harg11.read_unread _)
  have ea : bodyRun_B.sl.r_22 c arg1 harg1 arg2 harg2 arg3 harg3 arg8 x0 x1 x2 = acc x0 x1 x2 := by unfold bodyRun_B.sl.r_22; rw [hx, hw]; rfl
  have e1 : k0_pay1 (bodyRun_B.sl.r_26 c arg1 harg1 arg2 harg2 arg3 harg3 arg8 arg9 harg9 x0 x1 x2 xs1) = (st1 (acc x0 x1 x2) xs1) := by unfold bodyRun_B.sl.r_26; rw [ea, h9]; rfl
  have e2 : k0_pay2 (bodyRun_B.sl.r_24 c arg1 harg1 arg2 harg2 arg3 harg3 arg8 arg9 harg9 arg10 harg10 x0 x1 x2 xs1 xs2) = (st2 (acc x0 x1 x2) xs1 xs2) := by unfold bodyRun_B.sl.r_24; rw [ea, h9, h10]; rfl
  have e3 : k0_pay3 (bodyRun_B.sl.r_25 c i arg1 harg1 arg2 harg2 arg3 harg3 arg8 arg9 harg9 arg11 harg11 x0 x1 x2 xs1 xs3) = (st3 i (acc x0 x1 x2) xs1 xs3) := by unfold bodyRun_B.sl.r_25; rw [ea, h9, h11]; rfl
  have e4 : bodyRun_B.sl.r_23 c arg1 harg1 arg2 harg2 arg3 harg3 arg8 x0 x1 x2 = k0_pay89 x0 (wblk x1 x2) := by unfold bodyRun_B.sl.r_23; rw [hx, hw]
  have hR : (outR arg7 harg7).view.read (Elt F) ((outR arg7 harg7).view.writes (Elt F) f6
      [⟨⟨(⟨![3, 0], S640x128.size, ![4, 1], inb_S2560x128_S640x128_3_0_s_4_1⟩ : LoadRect S2560x128), spos_4_1⟩, bodyRun_B.sl.r_23 c arg1 harg1 arg2 harg2 arg3 harg3 arg8 x0 x1 x2⟩,
       ⟨⟨(⟨![2, 0], S640x128.size, ![4, 1], inb_S2560x128_S640x128_2_0_s_4_1⟩ : LoadRect S2560x128), spos_4_1⟩, k0_pay88 (View.readAt (Elt F) arg1.view (Rect.unit (s := S640x6144) ![0, 0] S640x6144.size inb_S640x6144_S640x6144_0_0).toLoadRect (harg1.unread x0)) (bodyRun_B.sl.v917 c arg2 harg2 arg3 harg3 arg8 x1 x2)⟩,
       ⟨⟨(⟨![1, 0], S640x128.size, ![4, 1], inb_S2560x128_S640x128_1_0_s_4_1⟩ : LoadRect S2560x128), spos_4_1⟩, k0_pay87 (View.readAt (Elt F) arg1.view (Rect.unit (s := S640x6144) ![0, 0] S640x6144.size inb_S640x6144_S640x6144_0_0).toLoadRect (harg1.unread x0)) (bodyRun_B.sl.v917 c arg2 harg2 arg3 harg3 arg8 x1 x2)⟩,
       ⟨⟨(⟨![0, 0], S640x128.size, ![4, 1], inb_S2560x128_S640x128_0_0_s_4_1⟩ : LoadRect S2560x128), spos_4_1⟩, k0_pay86 (View.readAt (Elt F) arg1.view (Rect.unit (s := S640x6144) ![0, 0] S640x6144.size inb_S640x6144_S640x6144_0_0).toLoadRect (harg1.unread x0)) (bodyRun_B.sl.v917 c arg2 harg2 arg3 harg3 arg8 x1 x2)⟩]) = lgR (acc x0 x1 x2) := by
    rw [e4, hx, hw]; exact lgR_read _ _ x0 (wblk x1 x2)
  have w1 : arg9.view.read (Elt F) (arg9.view.writes (Elt F) (harg9.unread xs1) (⟨Rect.unit (s := S640x128) ![0, 0] ![640, 128] inb_S640x128_S640x128_0_0, k0_pay1 (bodyRun_B.sl.r_26 c arg1 harg1 arg2 harg2 arg3 harg3 arg8 arg9 harg9 x0 x1 x2 xs1)⟩ :: [])) = _ :=
    (View.read_writes_full arg9.view (harg9.unread xs1) inb_S640x128_S640x128_0_0 _ []).trans e1
  have w2 : arg10.view.read (Elt F) (arg10.view.writes (Elt F) (harg10.unread xs2) (⟨Rect.unit (s := S640x128) ![0, 0] ![640, 128] inb_S640x128_S640x128_0_0, k0_pay2 (bodyRun_B.sl.r_24 c arg1 harg1 arg2 harg2 arg3 harg3 arg8 arg9 harg9 arg10 harg10 x0 x1 x2 xs1 xs2)⟩ :: [])) = _ :=
    (View.read_writes_full arg10.view (harg10.unread xs2) inb_S640x128_S640x128_0_0 _ []).trans e2
  have w3 : arg11.view.read (Elt F) (arg11.view.writes (Elt F) (harg11.unread xs3) (⟨Rect.unit (s := S640x128) ![0, 0] ![640, 128] inb_S640x128_S640x128_0_0, k0_pay3 (bodyRun_B.sl.r_25 c i arg1 harg1 arg2 harg2 arg3 harg3 arg8 arg9 harg9 arg11 harg11 x0 x1 x2 xs1 xs3)⟩ :: [])) = _ :=
    (View.read_writes_full arg11.view (harg11.unread xs3) inb_S640x128_S640x128_0_0 _ []).trans e3
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact hR
    · iexact H6
  isplitl [HS0]
  · iexists (arg8.view.read (Elt F) (arg8.view.writes (Elt F) fs0 (bodyRun_B.sl.HS0_48 c arg2 harg2 arg3 harg3 x1 x2)))
    iexists _; isplitr
    · ipureintro; rfl
    · iexact HS0
  isplitl [HS1]
  · iexists _; isplitr
    · ipureintro; exact w1
    · iexact HS1
  isplitl [HS2]
  · iexists _; isplitr
    · ipureintro; exact w2
    · iexact HS2
  iexists _; isplitr
  · ipureintro; exact w3
  · iexact HS3

end Cert.KernelIdeal.Gen

end
-- ==== Proof.IdealRunC.lean ====
module

public import proofs.«01_k».proof.Proof.IdealCases

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the last point: as at the others, then the three results are read off the running values. -/
theorem bodyRun_C (c : Dev nD) (i : grid0.Coords) (arg1 : Memref sig .tc .vmem S640x6144 .bf16) (harg1 : arg1.IsWhole) (arg2 : Memref sig .tc .vmem S768x512 .i32) (harg2 : arg2.IsWhole) (arg3 : Memref sig .tc .vmem S48x512 .bf16) (harg3 : arg3.IsWhole) (arg4 : Memref sig .tc .vmem S1x640 .i32) (harg4 : arg4.IsWhole) (arg5 : Memref sig .tc .vmem S1x640 .f32) (harg5 : arg5.IsWhole) (arg6 : Memref sig .tc .vmem S1x640 .f32) (harg6 : arg6.IsWhole) (arg7 : Memref sig .tc .vmem S640x1x4x128 .f32) (harg7 : arg7.IsWhole) (arg8 : Memref sig .tc .vmem S6144x512 .bf16) (harg8 : arg8.IsWhole) (arg9 : Memref sig .tc .vmem S640x128 .f32) (harg9 : arg9.IsWhole) (arg10 : Memref sig .tc .vmem S640x128 .f32) (harg10 : arg10.IsWhole) (arg11 : Memref sig .tc .vmem S640x128 .i32) (harg11 : arg11.IsWhole) (hc0 : ¬cond0_0 i) (hc1 : cond0_1 i)
    (x0 : Vec F S640x6144 .bf16) (x1 : Vec F S768x512 .i32) (x2 : Vec F S48x512 .bf16) (xs1 : Vec F S640x128 .f32) (xs2 : Vec F S640x128 .f32) (xs3 : Vec F S640x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) (outR arg7 harg7) fullShare d) ∗ (∃ d, owns (c : Thread nD τ) arg8 fullShare d) ∗ owns (c : Thread nD τ) arg9 fullShare xs1 ∗ owns (c : Thread nD τ) arg10 fullShare xs2 ∗ owns (c : Thread nD τ) arg11 fullShare xs3
        ∗ (iprop(owns (c : Thread nD τ) arg1 fullShare x0 ∗ owns (c : Thread nD τ) arg2 fullShare x1 ∗ owns (c : Thread nD τ) arg3 fullShare x2 ∗ owns (c : Thread nD τ) arg4 fullShare (k0_pay7 (st1 (acc x0 x1 x2) xs1) (st3 i (acc x0 x1 x2) xs1 xs3)) ∗ owns (c : Thread nD τ) arg5 fullShare (k0_pay8 (st1 (acc x0 x1 x2) xs1) (st2 (acc x0 x1 x2) xs1 xs2) (st3 i (acc x0 x1 x2) xs1 xs3)) ∗ owns (c : Thread nD τ) arg6 fullShare (k0_pay6 (st1 (acc x0 x1 x2) xs1)) ∗ owns (c : Thread nD τ) (outR arg7 harg7) fullShare (lgR (acc x0 x1 x2)) ∗ (∃ d, owns (c : Thread nD τ) arg8 fullShare d) ∗ owns (c : Thread nD τ) arg9 fullShare (st1 (acc x0 x1 x2) xs1) ∗ owns (c : Thread nD τ) arg10 fullShare (st2 (acc x0 x1 x2) xs1 xs2) ∗ owns (c : Thread nD τ) arg11 fullShare (st3 i (acc x0 x1 x2) xs1 xs3)) -∗ K ⟨⟩))
      ⊢ wp frame (wpE (defs₀ (F := F)) Variants.none c none) E (cc0_int4_head i arg1 harg1 arg2 harg2 arg3 harg3 arg4 harg4 arg5 harg5 arg6 harg6 arg7 harg7 arg8 harg8 arg9 harg9 arg10 harg10 arg11 harg11) K := by
  simp only [cc0_int4_head_eq_skeleton]; unfold cc0_int4_head_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg9.eq_unread hfs1; obtain rfl := harg10.eq_unread hfs2; obtain rfl := harg11.eq_unread hfs3
  sl_exec (disch := first | sl_exact hc0 | sl_exact hc1)
  sl_step
  have hL : bodyRun_C.sl.HS0_48 c arg2 harg2 arg3 harg3 x1 x2 = slabs arg2 harg2 arg3 harg3 x1 x2 48 le_rfl := rfl
  have hw : bodyRun_C.sl.v917 c arg2 harg2 arg3 harg3 arg8 x1 x2 = wblk x1 x2 := by
    unfold bodyRun_C.sl.v917; rw [hL]; exact slabs_read arg8 arg2 harg2 arg3 harg3 x1 x2 _
  have hx : View.readAt (Elt F) arg1.view (Rect.unit (s := S640x6144) ![0, 0] S640x6144.size inb_S640x6144_S640x6144_0_0).toLoadRect (harg1.unread x0) = x0 :=
    (View.readAt_full _ _ _).trans (harg1.read_unread _)
  have h9 : View.readAt (Elt F) arg9.view (Rect.unit (s := S640x128) ![0, 0] S640x128.size inb_S640x128_S640x128_0_0).toLoadRect (harg9.unread xs1) = xs1 :=
    (View.readAt_full _ _ _).trans (harg9.read_unread _)
  have h10 : View.readAt (Elt F) arg10.view (Rect.unit (s := S640x128) ![0, 0] S640x128.size inb_S640x128_S640x128_0_0).toLoadRect (harg10.unread xs2) = xs2 :=
    (View.readAt_full _ _ _).trans (harg10.read_unread _)
  have h11 : View.readAt (Elt F) arg11.view (Rect.unit (s := S640x128) ![0, 0] S640x128.size inb_S640x128_S640x128_0_0).toLoadRect (harg11.unread xs3) = xs3 :=
    (View.readAt_full _ _ _).trans (harg11.read_unread _)
  have ea : bodyRun_C.sl.r_22 c arg1 harg1 arg2 harg2 arg3 harg3 arg8 x0 x1 x2 = acc x0 x1 x2 := by unfold bodyRun_C.sl.r_22; rw [hx, hw]; rfl
  have e1 : k0_pay1 (bodyRun_C.sl.r_26 c arg1 harg1 arg2 harg2 arg3 harg3 arg8 arg9 harg9 x0 x1 x2 xs1) = (st1 (acc x0 x1 x2) xs1) := by unfold bodyRun_C.sl.r_26; rw [ea, h9]; rfl
  have e2 : k0_pay2 (bodyRun_C.sl.r_24 c arg1 harg1 arg2 harg2 arg3 harg3 arg8 arg9 harg9 arg10 harg10 x0 x1 x2 xs1 xs2) = (st2 (acc x0 x1 x2) xs1 xs2) := by unfold bodyRun_C.sl.r_24; rw [ea, h9, h10]; rfl
  have e3 : k0_pay3 (bodyRun_C.sl.r_25 c i arg1 harg1 arg2 harg2 arg3 harg3 arg8 arg9 harg9 arg11 harg11 x0 x1 x2 xs1 xs3) = (st3 i (acc x0 x1 x2) xs1 xs3) := by unfold bodyRun_C.sl.r_25; rw [ea, h9, h11]; rfl
  have e4 : bodyRun_C.sl.r_23 c arg1 harg1 arg2 harg2 arg3 harg3 arg8 x0 x1 x2 = k0_pay89 x0 (wblk x1 x2) := by unfold bodyRun_C.sl.r_23; rw [hx, hw]
  have e982 : bodyRun_C.sl.v982 c arg1 harg1 arg2 harg2 arg3 harg3 arg8 arg9 harg9 x0 x1 x2 xs1 = (st1 (acc x0 x1 x2) xs1) := (View.readCov_full _ _ _ _ _).trans e1
  have e984 : bodyRun_C.sl.v984 c arg1 harg1 arg2 harg2 arg3 harg3 arg8 arg9 harg9 arg10 harg10 x0 x1 x2 xs1 xs2 = (st2 (acc x0 x1 x2) xs1 xs2) := (View.readCov_full _ _ _ _ _).trans e2
  have e986 : bodyRun_C.sl.v986 c i arg1 harg1 arg2 harg2 arg3 harg3 arg8 arg9 harg9 arg11 harg11 x0 x1 x2 xs1 xs3 = (st3 i (acc x0 x1 x2) xs1 xs3) := (View.readCov_full _ _ _ _ _).trans e3
  have g3 : k0_pay7 (bodyRun_C.sl.v982 c arg1 harg1 arg2 harg2 arg3 harg3 arg8 arg9 harg9 x0 x1 x2 xs1) (bodyRun_C.sl.v986 c i arg1 harg1 arg2 harg2 arg3 harg3 arg8 arg9 harg9 arg11 harg11 x0 x1 x2 xs1 xs3) = k0_pay7 (st1 (acc x0 x1 x2) xs1) (st3 i (acc x0 x1 x2) xs1 xs3) := by rw [e982, e986]
  have g4 : k0_pay8 (bodyRun_C.sl.v982 c arg1 harg1 arg2 harg2 arg3 harg3 arg8 arg9 harg9 x0 x1 x2 xs1) (bodyRun_C.sl.v984 c arg1 harg1 arg2 harg2 arg3 harg3 arg8 arg9 harg9 arg10 harg10 x0 x1 x2 xs1 xs2) (bodyRun_C.sl.v986 c i arg1 harg1 arg2 harg2 arg3 harg3 arg8 arg9 harg9 arg11 harg11 x0 x1 x2 xs1 xs3) = k0_pay8 (st1 (acc x0 x1 x2) xs1) (st2 (acc x0 x1 x2) xs1 xs2) (st3 i (acc x0 x1 x2) xs1 xs3) := by rw [e982, e984, e986]
  have g5 : k0_pay6 (bodyRun_C.sl.v982 c arg1 harg1 arg2 harg2 arg3 harg3 arg8 arg9 harg9 x0 x1 x2 xs1) = k0_pay6 (st1 (acc x0 x1 x2) xs1) := by rw [e982]
  have q3 : arg4.view.read (Elt F) (arg4.view.writes (Elt F) f3 [⟨Rect.unit (s := S1x640) ![0, 0] ![1, 640] inb_S1x640_S1x640_0_0, k0_pay7 (bodyRun_C.sl.v982 c arg1 harg1 arg2 harg2 arg3 harg3 arg8 arg9 harg9 x0 x1 x2 xs1) (bodyRun_C.sl.v986 c i arg1 harg1 arg2 harg2 arg3 harg3 arg8 arg9 harg9 arg11 harg11 x0 x1 x2 xs1 xs3)⟩]) = _ :=
    (View.read_writes_full arg4.view f3 inb_S1x640_S1x640_0_0 _ []).trans g3
  have q4 : arg5.view.read (Elt F) (arg5.view.writes (Elt F) f4 [⟨Rect.unit (s := S1x640) ![0, 0] ![1, 640] inb_S1x640_S1x640_0_0, k0_pay8 (bodyRun_C.sl.v982 c arg1 harg1 arg2 harg2 arg3 harg3 arg8 arg9 harg9 x0 x1 x2 xs1) (bodyRun_C.sl.v984 c arg1 harg1 arg2 harg2 arg3 harg3 arg8 arg9 harg9 arg10 harg10 x0 x1 x2 xs1 xs2) (bodyRun_C.sl.v986 c i arg1 harg1 arg2 harg2 arg3 harg3 arg8 arg9 harg9 arg11 harg11 x0 x1 x2 xs1 xs3)⟩]) = _ :=
    (View.read_writes_full arg5.view f4 inb_S1x640_S1x640_0_0 _ []).trans g4
  have q5 : arg6.view.read (Elt F) (arg6.view.writes (Elt F) f5 [⟨Rect.unit (s := S1x640) ![0, 0] ![1, 640] inb_S1x640_S1x640_0_0, k0_pay6 (bodyRun_C.sl.v982 c arg1 harg1 arg2 harg2 arg3 harg3 arg8 arg9 harg9 x0 x1 x2 xs1)⟩]) = _ :=
    (View.read_writes_full arg6.view f5 inb_S1x640_S1x640_0_0 _ []).trans g5
  have hR : (outR arg7 harg7).view.read (Elt F) ((outR arg7 harg7).view.writes (Elt F) f6
      [⟨⟨(⟨![3, 0], S640x128.size, ![4, 1], inb_S2560x128_S640x128_3_0_s_4_1⟩ : LoadRect S2560x128), spos_4_1⟩, bodyRun_C.sl.r_23 c arg1 harg1 arg2 harg2 arg3 harg3 arg8 x0 x1 x2⟩,
       ⟨⟨(⟨![2, 0], S640x128.size, ![4, 1], inb_S2560x128_S640x128_2_0_s_4_1⟩ : LoadRect S2560x128), spos_4_1⟩, k0_pay88 (View.readAt (Elt F) arg1.view (Rect.unit (s := S640x6144) ![0, 0] S640x6144.size inb_S640x6144_S640x6144_0_0).toLoadRect (harg1.unread x0)) (bodyRun_C.sl.v917 c arg2 harg2 arg3 harg3 arg8 x1 x2)⟩,
       ⟨⟨(⟨![1, 0], S640x128.size, ![4, 1], inb_S2560x128_S640x128_1_0_s_4_1⟩ : LoadRect S2560x128), spos_4_1⟩, k0_pay87 (View.readAt (Elt F) arg1.view (Rect.unit (s := S640x6144) ![0, 0] S640x6144.size inb_S640x6144_S640x6144_0_0).toLoadRect (harg1.unread x0)) (bodyRun_C.sl.v917 c arg2 harg2 arg3 harg3 arg8 x1 x2)⟩,
       ⟨⟨(⟨![0, 0], S640x128.size, ![4, 1], inb_S2560x128_S640x128_0_0_s_4_1⟩ : LoadRect S2560x128), spos_4_1⟩, k0_pay86 (View.readAt (Elt F) arg1.view (Rect.unit (s := S640x6144) ![0, 0] S640x6144.size inb_S640x6144_S640x6144_0_0).toLoadRect (harg1.unread x0)) (bodyRun_C.sl.v917 c arg2 harg2 arg3 harg3 arg8 x1 x2)⟩]) = lgR (acc x0 x1 x2) := by
    rw [e4, hx, hw]; exact lgR_read _ _ x0 (wblk x1 x2)
  have w1 : arg9.view.read (Elt F) (arg9.view.writes (Elt F) (harg9.unread xs1) (bodyRun_C.sl.HS1_1 c arg1 harg1 arg2 harg2 arg3 harg3 arg8 arg9 harg9 x0 x1 x2 xs1)) = _ :=
    (View.read_writes_full arg9.view (harg9.unread xs1) inb_S640x128_S640x128_0_0 _ []).trans e1
  have w2 : arg10.view.read (Elt F) (arg10.view.writes (Elt F) (harg10.unread xs2) (bodyRun_C.sl.HS2_1 c arg1 harg1 arg2 harg2 arg3 harg3 arg8 arg9 harg9 arg10 harg10 x0 x1 x2 xs1 xs2)) = _ :=
    (View.read_writes_full arg10.view (harg10.unread xs2) inb_S640x128_S640x128_0_0 _ []).trans e2
  have w3 : arg11.view.read (Elt F) (arg11.view.writes (Elt F) (harg11.unread xs3) (bodyRun_C.sl.HS3_1 c i arg1 harg1 arg2 harg2 arg3 harg3 arg8 arg9 harg9 arg11 harg11 x0 x1 x2 xs1 xs3)) = _ :=
    (View.read_writes_full arg11.view (harg11.unread xs3) inb_S640x128_S640x128_0_0 _ []).trans e3
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact q3
    · iexact H3
  isplitl [H4]
  · iexists _; isplitr
    · ipureintro; exact q4
    · iexact H4
  isplitl [H5]
  · iexists _; isplitr
    · ipureintro; exact q5
    · iexact H5
  isplitl [H6]
  · iexists _; isplitr
    · ipureintro; exact hR
    · iexact H6
  isplitl [HS0]
  · iexists (arg8.view.read (Elt F) (arg8.view.writes (Elt F) fs0 (bodyRun_C.sl.HS0_48 c arg2 harg2 arg3 harg3 x1 x2)))
    iexists _; isplitr
    · ipureintro; rfl
    · iexact HS0
  isplitl [HS1]
  · iexists _; isplitr
    · ipureintro; exact w1
    · iexact HS1
  isplitl [HS2]
  · iexists _; isplitr
    · ipureintro; exact w2
    · iexact HS2
  iexists _; isplitr
  · ipureintro; exact w3
  · iexact HS3

end Cert.KernelIdeal.Gen

end
-- ==== Proof.IdealFrame.lean ====
module

public import Idealize.ShloMosaic.Lib.Claim
public import proofs.«01_k».proof.Proof.IdealRunA
public import proofs.«01_k».proof.Proof.IdealRunB
public import proofs.«01_k».proof.Proof.IdealRunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the running values hold after each point -/

/-- The block of logits of point `t`, on core `c`. -/
def blk (c : Dev nD) (t : Fin cfg0.N) : FVec F S640x512 .f32 := acc (iblk m c 0 t) (iblk m c 1 t) (iblk m c 2 t)

/-- The three running values after point `n`: the largest, the second largest and the block of the largest. -/
def state (c : Dev nD) : (n : ℕ) → n < cfg0.N → Vec F S640x128 .f32 × Vec F S640x128 .f32 × Vec F S640x128 .i32
  | 0, hn => (st1 (blk m c ⟨0, hn⟩) k0_pay9, st2 (blk m c ⟨0, hn⟩) k0_pay9 k0_pay10, st3 (grid0.coords ⟨0, hn⟩) (blk m c ⟨0, hn⟩) k0_pay9 k0_pay11)
  | n + 1, hn =>
    (st1 (blk m c ⟨n + 1, hn⟩) (state c n (Nat.lt_of_succ_lt hn)).1,
     st2 (blk m c ⟨n + 1, hn⟩) (state c n (Nat.lt_of_succ_lt hn)).1 (state c n (Nat.lt_of_succ_lt hn)).2.1,
     st3 (grid0.coords ⟨n + 1, hn⟩) (blk m c ⟨n + 1, hn⟩) (state c n (Nat.lt_of_succ_lt hn)).1 (state c n (Nat.lt_of_succ_lt hn)).2.2)

/-- At the first point the running values start over. -/
theorem state_first (c : Dev nD) (t : Fin cfg0.N) (h : t.val = 0) :
    state m c t.val t.isLt = (st1 (blk m c t) k0_pay9, st2 (blk m c t) k0_pay9 k0_pay10, st3 (grid0.coords t) (blk m c t) k0_pay9 k0_pay11) := by
  obtain ⟨n, hn⟩ := t
  cases n with
  | zero => rfl
  | succ n => exact absurd h (Nat.succ_ne_zero n)

/-- At every other point they go on from the point before. -/
theorem state_next (c : Dev nD) (t : Fin cfg0.N) (h : t.val ≠ 0) :
    state m c t.val t.isLt = (st1 (blk m c t) (state m c (t.val - 1) (Nat.lt_of_le_of_lt (Nat.sub_le _ _) t.isLt)).1,
      st2 (blk m c t) (state m c (t.val - 1) (Nat.lt_of_le_of_lt (Nat.sub_le _ _) t.isLt)).1 (state m c (t.val - 1) (Nat.lt_of_le_of_lt (Nat.sub_le _ _) t.isLt)).2.1,
      st3 (grid0.coords t) (blk m c t) (state m c (t.val - 1) (Nat.lt_of_le_of_lt (Nat.sub_le _ _) t.isLt)).1 (state m c (t.val - 1) (Nat.lt_of_le_of_lt (Nat.sub_le _ _) t.isLt)).2.2) := by
  obtain ⟨n, hn⟩ := t
  cases n with
  | zero => exact absurd rfl h
  | succ n => rfl

/-- What is held between the points: before the first the scratch buffers at anything, afterwards the three running values
    as the point before left them, the expanded weights at anything, and the generator register at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((state m c n hn).1) ∗ owns (c : Thread nD τ) scM0_2 fullShare ((state m c n hn).2.1) ∗ owns (c : Thread nD τ) scM0_3 fullShare ((state m c n hn).2.2)) ∗ (∃ r, prngReg c r))

/-- Before the first point the scratch buffers are at anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((state m c n hn).1) ∗ owns (c : Thread nD τ) scM0_2 fullShare ((state m c n hn).2.1) ∗ owns (c : Thread nD τ) scM0_3 fullShare ((state m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((state m c (n - 1) (by omega)).1) ∗ owns (c : Thread nD τ) scM0_2 fullShare ((state m c (n - 1) (by omega)).2.1) ∗ owns (c : Thread nD τ) scM0_3 fullShare ((state m c (n - 1) (by omega)).2.2)) ∗ (∃ r, prngReg c r)) := by
  cases n with
  | zero => exact absurd rfl hz
  | succ n => rfl

/-! ## The pipeline's proof data -/

/-- The proof data of the pipeline on core `c`: the arrays as the region finds them; after the body at point `t` each input's
    buffer at its block, the three small outputs at what the running values give, the block of logits in the last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay7 (state m c t.val t.isLt).1 (state m c t.val t.isLt).2.2
    | ⟨4, _⟩ => k0_pay8 (state m c t.val t.isLt).1 (state m c t.val t.isLt).2.1 (state m c t.val t.isLt).2.2
    | ⟨5, _⟩ => k0_pay6 (state m c t.val t.isLt).1
    | ⟨6, _⟩ => lgB (blk m c t)
  Φ t := PhiS m c t.val (Nat.le_of_lt_succ t.isLt)
  q _ := fullShare
  owed _ := 0

/-- The proof data's arrays are the contents the region finds. -/
theorem A_eq (c : Dev nD) (w : Fin cfg0.W) : (dats m 0 c).A w = V m c (Pipeline.arrRef spec0 w) := by
  dsimp only [dats]

/-- What is held at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay7 (state m c t.val t.isLt).1 (state m c t.val t.isLt).2.2 := by dsimp only [dats]
theorem after0_4 (c : Dev nD) (t : Fin cfg0.N) : (dats m 0 c).after 4 t = k0_pay8 (state m c t.val t.isLt).1 (state m c t.val t.isLt).2.1 (state m c t.val t.isLt).2.2 := by dsimp only [dats]
theorem after0_5 (c : Dev nD) (t : Fin cfg0.N) : (dats m 0 c).after 5 t = k0_pay6 (state m c t.val t.isLt).1 := by dsimp only [dats]
theorem after0_6 (c : Dev nD) (t : Fin cfg0.N) : (dats m 0 c).after 6 t = lgB (blk m c t) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at the first point, from what the pipeline hands it to what it takes back. -/
theorem sound_body_A (c : Dev nD) (t : Fin cfg0.N) (hc0 : cond0_0 (grid0.coords t)) (hc1 : ¬cond0_1 (grid0.coords t)) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [Dat.leavesExact_idle (dats m 0 c) 3 t (idleAt0_3_A t hc0 hc1) (noFlush0_3_A t hc0 hc1)]
  rw [Dat.leavesExact_idle (dats m 0 c) 4 t (idleAt0_4_A t hc0 hc1) (noFlush0_4_A t hc0 hc1)]
  rw [Dat.leavesExact_idle (dats m 0 c) 5 t (idleAt0_5_A t hc0 hc1) (noFlush0_5_A t hc0 hc1)]
  rw [show (dats m 0 c).leavesExact 6 t = owns (c : Thread nD τ) (ms0_6 t) fullShare ((dats m 0 c).after 6 t) from by
    unfold Dat.leavesExact; rw [liveAt0_6 t], after0_6]
  rw [PhiS_castSucc m c t, PhiS_zero m c _ _ hz, PhiA0_eq, state_first m c t hz]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  ihave H6 := (outR_any (F := F) c (ms0_6 t) (hs0_6 t)) $$ [H6]
  · iexists _; iexact H6
  iapply (bodyRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk m c 0 t) (iblk m c 1 t) (iblk m c 2 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  iapply (outR_owns (F := F) c (ms0_6 t) (hs0_6 t) (blk m c t)) $$ [H6]
  iexact H6

set_option maxHeartbeats 3200000 in
/-- The body at a middle point, from what the pipeline hands it to what it takes back. -/
theorem sound_body_B (c : Dev nD) (t : Fin cfg0.N) (hc0 : ¬cond0_0 (grid0.coords t)) (hc1 : ¬cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [Dat.leavesExact_idle (dats m 0 c) 3 t (idleAt0_3_B t hc0 hc1) (noFlush0_3_B t hc0 hc1)]
  rw [Dat.leavesExact_idle (dats m 0 c) 4 t (idleAt0_4_B t hc0 hc1) (noFlush0_4_B t hc0 hc1)]
  rw [Dat.leavesExact_idle (dats m 0 c) 5 t (idleAt0_5_B t hc0 hc1) (noFlush0_5_B t hc0 hc1)]
  rw [show (dats m 0 c).leavesExact 6 t = owns (c : Thread nD τ) (ms0_6 t) fullShare ((dats m 0 c).after 6 t) from by
    unfold Dat.leavesExact; rw [liveAt0_6 t], after0_6]
  rw [PhiS_castSucc m c t, PhiS_pos m c _ _ hz, state_next m c t hz]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  ihave H6 := (outR_any (F := F) c (ms0_6 t) (hs0_6 t)) $$ [H6]
  · iexists _; iexact H6
  iapply (bodyRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk m c 0 t) (iblk m c 1 t) (iblk m c 2 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  iapply (outR_owns (F := F) c (ms0_6 t) (hs0_6 t) (blk m c t)) $$ [H6]
  iexact H6

set_option maxHeartbeats 3200000 in
/-- The body at the last point, from what the pipeline hands it to what it takes back. -/
theorem sound_body_C (c : Dev nD) (t : Fin cfg0.N) (hc0 : ¬cond0_0 (grid0.coords t)) (hc1 : cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3_C t hc0 hc1], after0_3]
  rw [show (dats m 0 c).leavesExact 4 t = owns (c : Thread nD τ) (ms0_4 t) fullShare ((dats m 0 c).after 4 t) from by
    unfold Dat.leavesExact; rw [liveAt0_4_C t hc0 hc1], after0_4]
  rw [show (dats m 0 c).leavesExact 5 t = owns (c : Thread nD τ) (ms0_5 t) fullShare ((dats m 0 c).after 5 t) from by
    unfold Dat.leavesExact; rw [liveAt0_5_C t hc0 hc1], after0_5]
  rw [show (dats m 0 c).leavesExact 6 t = owns (c : Thread nD τ) (ms0_6 t) fullShare ((dats m 0 c).after 6 t) from by
    unfold Dat.leavesExact; rw [liveAt0_6 t], after0_6]
  rw [PhiS_castSucc m c t, PhiS_pos m c _ _ hz, state_next m c t hz]
  dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  ihave H6 := (outR_any (F := F) c (ms0_6 t) (hs0_6 t)) $$ [H6]
  · iexists _; iexact H6
  iapply (bodyRun_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) hc0 hc1 (iblk m c 0 t) (iblk m c 1 t) (iblk m c 2 t) _ _ _ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (outR_owns (F := F) c (ms0_6 t) (hs0_6 t) (blk m c t)) $$ [H6]
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  by_cases h0 : t.val % 64 = 0
  · exact sound_body_A m c t ((hcond0_0 t).mpr h0) (fun h => by have := (hcond0_1 t).mp h; omega) (by omega)
  · by_cases h1 : t.val % 64 = 63
    · exact sound_body_C m c t (fun h => h0 ((hcond0_0 t).mp h)) ((hcond0_1 t).mpr h1) (by omega)
    · exact sound_body_B m c t (fun h => h0 ((hcond0_0 t).mp h)) (fun h => h1 ((hcond0_1 t).mp h)) (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run terminates, leaves the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.HostRun.lean ====
module

public import Idealize.ShloMosaic.Lib.StableHlo.Run
public import Idealize.ShloMosaic.Lib.Pipeline.Quiescent
public import proofs.«01_k».proof.Proof.Gen.ReferenceIdeal

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.StableHlo Idealize.SL.Sem

variable {F : FTy → Type} [FloatOps F]

/-- The reference's operations up to the logits, in order, -/
abbrev opsA : List (HloOp τ sig (Elt F)) :=
  [ StableHlo.nullary main_v0 (iotaInDim S8 32 0),
    StableHlo.nullary main_c (constantI S_ 32 4#32),
    StableHlo.unary main_c main_v1 (broadcastInDim S8 ![] bcast_S_S8 : (⟨S_, .i32⟩ : BufTy).Contents (Elt F) → (⟨S8, .i32⟩ : BufTy).Contents (Elt F)),
    StableHlo.binary main_v1 main_v0 main_v2 (muli : (⟨S8, .i32⟩ : BufTy).Contents (Elt F) → (⟨S8, .i32⟩ : BufTy).Contents (Elt F) → (⟨S8, .i32⟩ : BufTy).Contents (Elt F)),
    StableHlo.unary main_arg1 main_v3 (broadcastInDim S1x768x32768 ![1, 2] bcast_S768x32768_S1x768x32768_1_2 : (⟨S768x32768, .i32⟩ : BufTy).Contents (Elt F) → (⟨S1x768x32768, .i32⟩ : BufTy).Contents (Elt F)),
    StableHlo.unary main_v2 main_v4 (broadcastInDim S8x1x1 ![0] bcast_S8_S8x1x1_0 : (⟨S8, .i32⟩ : BufTy).Contents (Elt F) → (⟨S8x1x1, .i32⟩ : BufTy).Contents (Elt F)),
    StableHlo.unary main_v3 main_v5 (broadcastInDim S8x768x32768 ![0, 1, 2] bcast_S1x768x32768_S8x768x32768_0_1_2 : (⟨S1x768x32768, .i32⟩ : BufTy).Contents (Elt F) → (⟨S8x768x32768, .i32⟩ : BufTy).Contents (Elt F)),
    StableHlo.unary main_v4 main_v6 (broadcastInDim S8x768x32768 ![0, 1, 2] bcast_S8x1x1_S8x768x32768_0_1_2 : (⟨S8x1x1, .i32⟩ : BufTy).Contents (Elt F) → (⟨S8x768x32768, .i32⟩ : BufTy).Contents (Elt F)),
    StableHlo.binary main_v5 main_v6 main_v7 (Host.shrsi : (⟨S8x768x32768, .i32⟩ : BufTy).Contents (Elt F) → (⟨S8x768x32768, .i32⟩ : BufTy).Contents (Elt F) → (⟨S8x768x32768, .i32⟩ : BufTy).Contents (Elt F)),
    StableHlo.nullary main_c_0 (constantI S_ 32 15#32),
    StableHlo.unary main_c_0 main_v8 (broadcastInDim S8x768x32768 ![] bcast_S_S8x768x32768 : (⟨S_, .i32⟩ : BufTy).Contents (Elt F) → (⟨S8x768x32768, .i32⟩ : BufTy).Contents (Elt F)),
    StableHlo.binary main_v7 main_v8 main_v9 (andi : (⟨S8x768x32768, .i32⟩ : BufTy).Contents (Elt F) → (⟨S8x768x32768, .i32⟩ : BufTy).Contents (Elt F) → (⟨S8x768x32768, .i32⟩ : BufTy).Contents (Elt F)),
    StableHlo.reshape main_v9 main_v10 (rfl : (.i32 : EltTy) = .i32) shapeCasts_S8x768x32768_S8x48x16x32768,
    StableHlo.unary main_v10 main_v11 (sitofp .bf16 : (⟨S8x48x16x32768, .i32⟩ : BufTy).Contents (Elt F) → (⟨S8x48x16x32768, .bf16⟩ : BufTy).Contents (Elt F)),
    StableHlo.nullary main_cst (constant S_ .bf16 0x4100#16),
    StableHlo.unary main_cst main_v12 (broadcastInDim S8x48x16x32768 ![] bcast_S_S8x48x16x32768 : (⟨S_, .bf16⟩ : BufTy).Contents (Elt F) → (⟨S8x48x16x32768, .bf16⟩ : BufTy).Contents (Elt F)),
    StableHlo.binary main_v11 main_v12 main_v13 (subf : (⟨S8x48x16x32768, .bf16⟩ : BufTy).Contents (Elt F) → (⟨S8x48x16x32768, .bf16⟩ : BufTy).Contents (Elt F) → (⟨S8x48x16x32768, .bf16⟩ : BufTy).Contents (Elt F)),
    StableHlo.unary main_arg2 main_v14 (broadcastInDim S1x48x1x32768 ![1, 3] bcast_S48x32768_S1x48x1x32768_1_3 : (⟨S48x32768, .bf16⟩ : BufTy).Contents (Elt F) → (⟨S1x48x1x32768, .bf16⟩ : BufTy).Contents (Elt F)),
    StableHlo.unary main_v14 main_v15 (broadcastInDim S8x48x16x32768 ![0, 1, 2, 3] bcast_S1x48x1x32768_S8x48x16x32768_0_1_2_3 : (⟨S1x48x1x32768, .bf16⟩ : BufTy).Contents (Elt F) → (⟨S8x48x16x32768, .bf16⟩ : BufTy).Contents (Elt F)),
    StableHlo.binary main_v13 main_v15 main_v16 (mulf : (⟨S8x48x16x32768, .bf16⟩ : BufTy).Contents (Elt F) → (⟨S8x48x16x32768, .bf16⟩ : BufTy).Contents (Elt F) → (⟨S8x48x16x32768, .bf16⟩ : BufTy).Contents (Elt F)),
    StableHlo.reshape main_v16 main_v17 (rfl : (.bf16 : EltTy) = .bf16) shapeCasts_S8x48x16x32768_S6144x32768,
    StableHlo.reshape main_arg0 main_v18 (rfl : (.bf16 : EltTy) = .bf16) shapeCasts_S640x1x6144_S640x1x768x8,
    StableHlo.unary main_v18 main_v19 ((transpose S640x1x8x768 [0, 1, 3, 2] · transposes_S640x1x768x8_S640x1x8x768_0_1_3_2) : (⟨S640x1x768x8, .bf16⟩ : BufTy).Contents (Elt F) → (⟨S640x1x8x768, .bf16⟩ : BufTy).Contents (Elt F)),
    StableHlo.reshape main_v19 main_v20 (rfl : (.bf16 : EltTy) = .bf16) shapeCasts_S640x1x8x768_S640x1x6144,
    StableHlo.binary main_v20 main_v17 main_v21 ((fun l r => Host.dotGeneral dot_S640x1x6144_S6144x32768_S640x1x32768_2_0_01_1_n_n none l r) : (⟨S640x1x6144, .bf16⟩ : BufTy).Contents (Elt F) → (⟨S6144x32768, .bf16⟩ : BufTy).Contents (Elt F) → (⟨S640x1x32768, .f32⟩ : BufTy).Contents (Elt F)) ]

/-- those that give the token and the largest logit, -/
abbrev opsB : List (HloOp τ sig (Elt F)) :=
  [ StableHlo.TRef.nullary main_call0.v0 (iotaInDim S640x1x32768 32 2),
    StableHlo.TRef.nullary main_call0.cst (constant S_ .f32 0xFF800000#32),
    StableHlo.TRef.nullary main_call0.c (constantI S_ 32 0#32),
    StableHlo.TRef.quaternary (.of main_v21) main_call0.v0 main_call0.cst main_call0.c main_call0.v1_0 (fun x y u v j => (Host.argReduce reducer_argmax_f32_i32 x y u v reducesTo_S640x1x32768_S640x1_d2 h_S_ j).1),
    StableHlo.TRef.quaternary (.of main_v21) main_call0.v0 main_call0.cst main_call0.c main_call0.v1_1 (fun x y u v j => (Host.argReduce reducer_argmax_f32_i32 x y u v reducesTo_S640x1x32768_S640x1_d2 h_S_ j).2),
    StableHlo.nullary main_cst_1 (constant S_ .f32 0xFF800000#32),
    StableHlo.binary main_v21 main_cst_1 main_v23 ((fun x v => Host.reduce FloatOps.maximumf x v reducesTo_S640x1x32768_S640x1_d2 h_S_) : (⟨S640x1x32768, .f32⟩ : BufTy).Contents (Elt F) → (⟨S_, .f32⟩ : BufTy).Contents (Elt F) → (⟨S640x1, .f32⟩ : BufTy).Contents (Elt F)) ]

/-- and those that give the margin. -/
abbrev opsC : List (HloOp τ sig (Elt F)) :=
  [ StableHlo.nullary main_v24 (iotaInDim S32768 32 0),
    StableHlo.unary main_v22 main_v25 (broadcastInDim S640x1x1 ![0, 1] bcast_S640x1_S640x1x1_0_1 : (⟨S640x1, .i32⟩ : BufTy).Contents (Elt F) → (⟨S640x1x1, .i32⟩ : BufTy).Contents (Elt F)),
    StableHlo.unary main_v24 main_v26 (broadcastInDim S1x1x32768 ![2] bcast_S32768_S1x1x32768_2 : (⟨S32768, .i32⟩ : BufTy).Contents (Elt F) → (⟨S1x1x32768, .i32⟩ : BufTy).Contents (Elt F)),
    StableHlo.unary main_v26 main_v27 (broadcastInDim S640x1x32768 ![0, 1, 2] bcast_S1x1x32768_S640x1x32768_0_1_2 : (⟨S1x1x32768, .i32⟩ : BufTy).Contents (Elt F) → (⟨S640x1x32768, .i32⟩ : BufTy).Contents (Elt F)),
    StableHlo.unary main_v25 main_v28 (broadcastInDim S640x1x32768 ![0, 1, 2] bcast_S640x1x1_S640x1x32768_0_1_2 : (⟨S640x1x1, .i32⟩ : BufTy).Contents (Elt F) → (⟨S640x1x32768, .i32⟩ : BufTy).Contents (Elt F)),
    StableHlo.binary main_v27 main_v28 main_v29 (cmpi .eq : (⟨S640x1x32768, .i32⟩ : BufTy).Contents (Elt F) → (⟨S640x1x32768, .i32⟩ : BufTy).Contents (Elt F) → (⟨S640x1x32768, .i1⟩ : BufTy).Contents (Elt F)),
    StableHlo.nullary main_cst_2 (constant S_ .f32 0xFF800000#32),
    StableHlo.TRef.unary (.of main_cst_2) main_call1.v0 id,
    StableHlo.TRef.unary main_call1.v0 main_call1.v1 (broadcastInDim S640x1x32768 ![] bcast_S_S640x1x32768),
    StableHlo.TRef.ternary (.of main_v29) main_call1.v1 (.of main_v21) main_call1.v2 select,
    StableHlo.nullary main_cst_3 (constant S_ .f32 0xFF800000#32),
    StableHlo.binary main_v30 main_cst_3 main_v31 ((fun x v => Host.reduce FloatOps.maximumf x v reducesTo_S640x1x32768_S640x1_d2 h_S_) : (⟨S640x1x32768, .f32⟩ : BufTy).Contents (Elt F) → (⟨S_, .f32⟩ : BufTy).Contents (Elt F) → (⟨S640x1, .f32⟩ : BufTy).Contents (Elt F)),
    StableHlo.binary main_v23 main_v31 main_v32 (subf : (⟨S640x1, .f32⟩ : BufTy).Contents (Elt F) → (⟨S640x1, .f32⟩ : BufTy).Contents (Elt F) → (⟨S640x1, .f32⟩ : BufTy).Contents (Elt F)) ]

/-- The reference's operations. -/
abbrev ops : List (HloOp τ sig (Elt F)) := opsA ++ (opsB ++ opsC)

/-- The reference is that straight line. -/
theorem main_eq (c : Dev nD) : main (F := F) c = seq ops := rfl

/-- Nothing is scoped here. -/
theorem scopedRefs_eq : (Finset.univ.filter fun b : Ref sig .tc => b.isScoped) = ∅ := by decide
/-- No semaphore is scoped here. -/
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., reshape_bufs_sub .., unary_bufs_sub .., nullary_bufs_sub .., unary_bufs_sub .., binary_bufs_sub .., unary_bufs_sub .., unary_bufs_sub .., binary_bufs_sub .., reshape_bufs_sub .., reshape_bufs_sub .., unary_bufs_sub .., reshape_bufs_sub .., binary_bufs_sub .., nullary_bufs_sub .., nullary_bufs_sub .., nullary_bufs_sub .., quaternary_bufs_sub .., quaternary_bufs_sub .., nullary_bufs_sub .., binary_bufs_sub .., nullary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., binary_bufs_sub ..⟩

/-! ## The results as functions of the arguments -/

/-- The codes of the words: code `p` of a word is its bits `4 p` to `4 p + 3`. -/
def codes (w : Vec F S768x32768 .i32) : Vec F S8x768x32768 .i32 :=
  andi (Host.shrsi (broadcastInDim S8x768x32768 ![0, 1, 2] bcast_S1x768x32768_S8x768x32768_0_1_2 (broadcastInDim S1x768x32768 ![1, 2] bcast_S768x32768_S1x768x32768_1_2 w))
      (broadcastInDim S8x768x32768 ![0, 1, 2] bcast_S8x1x1_S8x768x32768_0_1_2 (broadcastInDim S8x1x1 ![0] bcast_S8_S8x1x1_0
        (muli (broadcastInDim S8 ![] bcast_S_S8 (constantI S_ 32 4#32)) (iotaInDim S8 32 0)))))
    (broadcastInDim S8x768x32768 ![] bcast_S_S8x768x32768 (constantI S_ 32 15#32))

/-- The weights: each code less eight, by the scale of its group. -/
def weights (w : Vec F S768x32768 .i32) (sc : Vec F S48x32768 .bf16) : FVec F S6144x32768 .bf16 :=
  shapeCast S6144x32768 (mulf (subf (sitofp .bf16 (shapeCast S8x48x16x32768 (codes (F := F) w) shapeCasts_S8x768x32768_S8x48x16x32768) : FVec F S8x48x16x32768 .bf16)
      (broadcastInDim S8x48x16x32768 ![] bcast_S_S8x48x16x32768 (constant S_ .bf16 0x4100#16)))
    (broadcastInDim S8x48x16x32768 ![0, 1, 2, 3] bcast_S1x48x1x32768_S8x48x16x32768_0_1_2_3 (broadcastInDim S1x48x1x32768 ![1, 3] bcast_S48x32768_S1x48x1x32768_1_3 sc)))
    shapeCasts_S8x48x16x32768_S6144x32768

/-- The activations, their features regrouped as the weights' rows are. -/
def acts (x : Vec F S640x1x6144 .bf16) : Vec F S640x1x6144 .bf16 :=
  shapeCast S640x1x6144 (transpose S640x1x8x768 [0, 1, 3, 2] (shapeCast S640x1x768x8 x shapeCasts_S640x1x6144_S640x1x768x8) transposes_S640x1x768x8_S640x1x8x768_0_1_3_2)
    shapeCasts_S640x1x8x768_S640x1x6144

/-- The logits. -/
def logits (x : Vec F S640x1x6144 .bf16) (w : Vec F S768x32768 .i32) (sc : Vec F S48x32768 .bf16) : FVec F S640x1x32768 .f32 :=
  Host.dotGeneral dot_S640x1x6144_S6144x32768_S640x1x32768_2_0_01_1_n_n none (acts x) (weights w sc)

/-- The token: the first position of a row's largest logit. -/
def token (l : FVec F S640x1x32768 .f32) : Vec F S640x1 .i32 := fun j =>
  (Host.argReduce reducer_argmax_f32_i32 l (iotaInDim S640x1x32768 32 2) (constant S_ .f32 0xFF800000#32) (constantI S_ 32 0#32)
    reducesTo_S640x1x32768_S640x1_d2 h_S_ j).2

/-- A row's largest entry. -/
def top (l : FVec F S640x1x32768 .f32) : FVec F S640x1 .f32 :=
  Host.reduce FloatOps.maximumf l (constant S_ .f32 0xFF800000#32) reducesTo_S640x1x32768_S640x1_d2 h_S_

/-- The logits with the token's own left out. -/
def others (l : FVec F S640x1x32768 .f32) (k : Vec F S640x1 .i32) : FVec F S640x1x32768 .f32 :=
  select (cmpi .eq (broadcastInDim S640x1x32768 ![0, 1, 2] bcast_S1x1x32768_S640x1x32768_0_1_2 (broadcastInDim S1x1x32768 ![2] bcast_S32768_S1x1x32768_2 (iotaInDim S32768 32 0)))
      (broadcastInDim S640x1x32768 ![0, 1, 2] bcast_S640x1x1_S640x1x32768_0_1_2 (broadcastInDim S640x1x1 ![0, 1] bcast_S640x1_S640x1x1_0_1 k)))
    (broadcastInDim S640x1x32768 ![] bcast_S_S640x1x32768 (constant S_ .f32 0xFF800000#32)) l

/-- The largest logit less the largest of the others. -/
def margin (l : FVec F S640x1x32768 .f32) : FVec F S640x1 .f32 := subf (top l) (top (others l (token l)))

/-- The second operations leave the token in the first result, -/
theorem token_eq (V : Valuation τ sig (Elt F)) : after opsB V (main_v22 : DevRef τ sig) = token (V (main_v21 : DevRef τ sig)) := by
  after_results
  rfl
/-- the last the margin in the second, -/
theorem margin_eqC (V : Valuation τ sig (Elt F)) : after opsC V (main_v32 : DevRef τ sig)
    = subf (V (main_v23 : DevRef τ sig) : FVec F S640x1 .f32) (top (others (V (main_v21 : DevRef τ sig)) (V (main_v22 : DevRef τ sig)))) := by
  after_results
  rfl
/-- the second the largest logit in the third -/
theorem top_eq (V : Valuation τ sig (Elt F)) : after opsB V (main_v23 : DevRef τ sig) = top (V (main_v21 : DevRef τ sig)) := by
  after_results
  rfl
/-- and the first the logits in the fourth. -/
theorem logits_eqA (V : Valuation τ sig (Elt F)) : after opsA V (main_v21 : DevRef τ sig)
    = logits (V (main_arg0 : DevRef τ sig)) (V (main_arg1 : DevRef τ sig)) (V (main_arg2 : DevRef τ sig)) := by
  after_results
  rfl
/-- The operations from the logits on leave the logits as they were. -/
theorem logits_keep (V : Valuation τ sig (Elt F)) : after opsB V (main_v21 : DevRef τ sig) = V (main_v21 : DevRef τ sig) := by
  after_results
/-- The last operations leave the first result as it was, -/
theorem token_keep (V : Valuation τ sig (Elt F)) : after opsC V (main_v22 : DevRef τ sig) = V (main_v22 : DevRef τ sig) := by
  after_results
/-- the third -/
theorem top_keep (V : Valuation τ sig (Elt F)) : after opsC V (main_v23 : DevRef τ sig) = V (main_v23 : DevRef τ sig) := by
  after_results
/-- and the fourth. -/
theorem logits_keepC (V : Valuation τ sig (Elt F)) : after opsC V (main_v21 : DevRef τ sig) = V (main_v21 : DevRef τ sig) := by
  after_results
/-- A line in two parts is run part by part. -/
theorem after_app (xs ys : List (HloOp τ sig (Elt F))) (V : Valuation τ sig (Elt F)) : after (xs ++ ys) V = after ys (after xs V) := by
  induction xs generalizing V with
  | nil => rfl
  | cons x xs ih => exact ih _
/-- The whole line is its three parts, one after the other. -/
theorem after_split (V : Valuation τ sig (Elt F)) : after ops V = after opsC (after opsB (after opsA V)) := by
  show after (opsA ++ (opsB ++ opsC)) V = _
  rw [after_app, after_app]
/-- The run leaves the token in the first result, -/
theorem token_run (V : Valuation τ sig (Elt F)) : after ops V (main_v22 : DevRef τ sig) = token (logits (V (main_arg0 : DevRef τ sig)) (V (main_arg1 : DevRef τ sig)) (V (main_arg2 : DevRef τ sig))) := by
  rw [after_split, token_keep, token_eq, logits_eqA]
/-- the margin in the second, -/
theorem margin_run (V : Valuation τ sig (Elt F)) : after ops V (main_v32 : DevRef τ sig) = margin (logits (V (main_arg0 : DevRef τ sig)) (V (main_arg1 : DevRef τ sig)) (V (main_arg2 : DevRef τ sig))) := by
  rw [after_split, margin_eqC, top_eq, logits_keep, token_eq, logits_eqA]; rfl
/-- the largest logit in the third -/
theorem top_run (V : Valuation τ sig (Elt F)) : after ops V (main_v23 : DevRef τ sig) = top (logits (V (main_arg0 : DevRef τ sig)) (V (main_arg1 : DevRef τ sig)) (V (main_arg2 : DevRef τ sig))) := by
  rw [after_split, top_keep, top_eq, logits_eqA]
/-- and the logits in the fourth. -/
theorem logits_run (V : Valuation τ sig (Elt F)) : after ops V (main_v21 : DevRef τ sig) = logits (V (main_arg0 : DevRef τ sig)) (V (main_arg1 : DevRef τ sig)) (V (main_arg2 : DevRef τ sig)) := by
  rw [after_split, logits_keepC, logits_keep, logits_eqA]
/-- The first argument is left as it was, -/
theorem arg0_eq (V : Valuation τ sig (Elt F)) : after ops V (main_arg0 : DevRef τ sig) = V (main_arg0 : DevRef τ sig) := by
  rw [after_split]; after_results
/-- so is the second -/
theorem arg1_eq (V : Valuation τ sig (Elt F)) : after ops V (main_arg1 : DevRef τ sig) = V (main_arg1 : DevRef τ sig) := by
  rw [after_split]; after_results
/-- and the third. -/
theorem arg2_eq (V : Valuation τ sig (Elt F)) : after ops V (main_arg2 : DevRef τ sig) = V (main_arg2 : DevRef τ sig) := by
  rw [after_split]; after_results

/-- The logits of device `c`'s arguments. -/
def lg (m : (ℓ : Loc nD τ sig) → Buf (Elt F) ℓ) (c : Dev nD) : FVec F S640x1x32768 .f32 :=
  logits (m ((c.tc : Thread nD τ).loc main_arg0)) (m ((c.tc : Thread nD τ).loc main_arg1)) (m ((c.tc : Thread nD τ).loc main_arg2))

/-- The reference's run: it terminates, its four results are the token, the margin, the largest logit and the logits, and
    its arguments are left as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v22) = token (lg m c)
        ∧ r.2.mem ((c.tc : Thread nD τ).loc main_v32) = margin (lg m c)
        ∧ r.2.mem ((c.tc : Thread nD τ).loc main_v23) = top (lg m c)
        ∧ r.2.mem ((c.tc : Thread nD τ).loc main_v21) = lg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨⟨(h c main_v22).trans (token_run _), (h c main_v32).trans (margin_run _), (h c main_v23).trans (top_run _),
      (h c main_v21).trans (logits_run _)⟩, (h c main_arg0).trans (arg0_eq _), (h c main_arg1).trans (arg1_eq _), (h c main_arg2).trans (arg2_eq _)⟩)
    (run_seq scopedRefs_eq scopedSems_eq defs main (fun _ => ops) main_eq (fun _ => ops_sub) m ρ)

/-- The reference terminates, leaves its arguments as they were and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, Idealize.ShloMosaic.sem_eq_zero_of_no_sems (by decide) r.2⟩) (run_main m ρ)

end Cert.ReferenceIdeal.Host

end
-- ==== Proof.Nibble.lean ====
/-
  A word's eight 4-bit codes and their values, over the extended reals: the code less eight, as both programs reach it.
-/
module

public import Idealize.ShloMosaic.Lib.Pointwise

@[expose] public section

noncomputable section

namespace Cert.Nibble

open Idealize.ShloMosaic

/-- Code `p` of a word: its bits `4 p` to `4 p + 3`. -/
def code (w : BitVec 32) (p : ℕ) : BitVec 4 := w.extractLsb' (4 * p) 4
/-- The value a code stands for, before its scale: the code less eight. -/
def value (w : BitVec 32) (p : ℕ) : EReal := (((code w p).toNat - 8 : ℝ) : EReal)

/-- The shift amount of code `p`. -/
theorem amount (p : ℕ) (hp : p < 8) : (IntOp.muli 4#32 (BitVec.ofNat 32 p)).toNat = 4 * p := by
  unfold IntOp.muli
  rw [BitVec.toNat_mul, BitVec.toNat_ofNat, BitVec.toNat_ofNat]
  omega

/-- An arithmetic shift by that amount. -/
theorem shift (u : ArithUnit) (w : BitVec 32) (p : ℕ) (hp : p < 8) :
    IntOp.shrsi u w (IntOp.muli 4#32 (BitVec.ofNat 32 p)) = w.sshiftRight (4 * p) := by
  unfold IntOp.shrsi
  rw [amount p hp, if_pos (by omega)]
  unfold BitVec.sshiftRight'
  rw [amount p hp]

/-- Fifteen has its low four bits set, -/
theorem bits15 : ∀ j : Fin 32, (15#32).getLsbD j.val = decide (j.val < 4) := by decide
/-- and every code of the flipping word is eight. -/
theorem bits8 : ∀ p : Fin 8, ∀ j : Fin 4, (2290649224#32).getLsbD (4 * p.val + j.val) = (8#4).getLsbD j.val := by decide

/-- The low four bits of the shifted word, kept by a mask, are the code. -/
theorem masked (w : BitVec 32) (p : ℕ) (hp : p < 8) : w.sshiftRight (4 * p) &&& 15#32 = (code w p).setWidth 32 := by
  ext i hi
  have h15 : (15#32)[i] = decide (i < 4) := (BitVec.getLsbD_eq_getElem hi).symm.trans (bits15 ⟨i, hi⟩)
  rw [BitVec.getElem_and, h15, BitVec.getElem_setWidth]
  unfold code
  rw [BitVec.getLsbD_extractLsb', BitVec.getElem_sshiftRight]
  by_cases h4 : i < 4
  · have h : 4 * p + i < 32 := by omega
    simp [h4, h, BitVec.getLsbD_eq_getElem]
  · simp [h4]

/-- With every code's top bit flipped, the low four bits of the shifted word are the code with its top bit flipped. -/
theorem flipped (w : BitVec 32) (p : ℕ) (hp : p < 8) :
    ((w ^^^ 2290649224#32).sshiftRight (4 * p)).setWidth 4 = code w p ^^^ 8#4 := by
  ext i hi
  have h : 4 * p + i < 32 := by omega
  have e : (2290649224#32).getLsbD (4 * p + i) = (8#4)[i] := (bits8 ⟨p, hp⟩ ⟨i, hi⟩).trans (BitVec.getLsbD_eq_getElem hi)
  unfold code
  rw [BitVec.getElem_xor, BitVec.getElem_setWidth, BitVec.getLsbD_sshiftRight, BitVec.getElem_extractLsb', ← e]
  simp [h, show i < 32 by omega]

/-- A 4-bit word with its top bit flipped, read signed, is the word less eight. -/
theorem toInt_flip : ∀ n : BitVec 4, (n ^^^ 8#4).toInt = (n.toNat : ℤ) - 8 := by decide

/-- The kernel's way: flip, shift, keep four bits, read signed. -/
theorem value_flip (w : BitVec 32) (p : ℕ) (hp : p < 8) :
    (FloatOps.sitofp (F := Ideal) FTy.bf16 (BitVec.setWidth 4 (IntOp.shrsi ArithUnit.vector (IntOp.xori w 2290649224#32)
      (IntOp.muli 4#32 (BitVec.ofNat 32 p)))) : EReal) = value w p := by
  rw [shift _ _ _ hp]
  unfold IntOp.xori
  rw [flipped w p hp]
  show (((code w p ^^^ 8#4).toInt : ℝ) : EReal) = _
  rw [toInt_flip]
  unfold value
  push_cast
  rfl

/-- The constant eight. -/
theorem ofBits_eight : Ideal.ofBits .bf16 16640#16 = ((8 : ℝ) : EReal) := by
  simp [Ideal.ofBits, Ideal.ieee, -EReal.coe_mul]; norm_num

/-- The reference's way: shift, mask, subtract eight. -/
theorem value_mask (w : BitVec 32) (p : ℕ) (hp : p < 8) :
    (FloatOps.sitofp (F := Ideal) FTy.bf16 (IntOp.andi (IntOp.shrsi ArithUnit.host w (IntOp.muli 4#32 (BitVec.ofNat 32 p))) 15#32) : EReal)
      - Ideal.ofBits .bf16 16640#16 = value w p := by
  rw [shift _ _ _ hp]
  unfold IntOp.andi
  rw [masked w p hp, ofBits_eight]
  show ((((code w p).setWidth 32).toInt : ℝ) : EReal) - _ = _
  have h : ((code w p).setWidth 32).toInt = ((code w p).toNat : ℤ) := by
    have h' : ∀ n : BitVec 4, (n.setWidth 32).toInt = (n.toNat : ℤ) := by decide
    exact h' _
  rw [h]
  unfold value
  rw [EReal.coe_sub]
  push_cast
  rfl

/-- The constant from which a largest value is sought. -/
theorem ofBits_bot : Ideal.ofBits .f32 4286578688#32 = ⊥ := by
  simp [Ideal.ofBits, Ideal.ieee]

/-- One logit: the row of activations against the weights of one column, each a code's value by its group's scale. Word `d / 8`
    holds weight `d`'s code at place `d % 8`, and 128 weights share a scale. -/
def logit (x : Fin 640 → Fin 6144 → EReal) (w : Fin 768 → Fin 32768 → BitVec 32) (sc : Fin 48 → Fin 32768 → EReal)
    (r : Fin 640) (v : Fin 32768) : EReal :=
  ∑ d : Fin 6144, x r d * (value (w ⟨d.val / 8, by omega⟩ v) (d.val % 8) * sc ⟨d.val / 128, by omega⟩ v)

end Cert.Nibble

end
-- ==== Proof.Top2.lean ====
/-
  The largest entry of a row, its first place, and the largest of the other entries, each said by what singles it out; and
  how a lane by lane scan finds the three.
-/
module

public import Idealize.ShloMosaic.Lib.Pointwise

@[expose] public section

noncomputable section

namespace Cert.Top2

/-- `t` is the largest of the first `n` entries (`⊥` if there are none). -/
def IsTop (f : ℕ → EReal) (n : ℕ) (t : EReal) : Prop := (∀ u < n, f u ≤ t) ∧ (t = ⊥ ∨ ∃ u < n, f u = t)
/-- `v` is the first place of the largest of the first `n` entries. -/
def IsFirst (f : ℕ → EReal) (n v : ℕ) : Prop := v < n ∧ (∀ u < n, f u ≤ f v) ∧ ∀ u < v, f u < f v
/-- `s` is the largest of the first `n` entries but that at `v` (`⊥` if there are none). -/
def IsNext (f : ℕ → EReal) (n v : ℕ) (s : EReal) : Prop := (∀ u < n, u ≠ v → f u ≤ s) ∧ (s = ⊥ ∨ ∃ u < n, u ≠ v ∧ f u = s)

/-- There is one largest entry, -/
theorem IsTop.unique {f : ℕ → EReal} {n : ℕ} {t t' : EReal} (h : IsTop f n t) (h' : IsTop f n t') : t = t' := by
  refine le_antisymm ?_ ?_
  · rcases h.2 with h0 | ⟨u, hu, e⟩
    · rw [h0]; exact bot_le
    · rw [← e]; exact h'.1 u hu
  · rcases h'.2 with h0 | ⟨u, hu, e⟩
    · rw [h0]; exact bot_le
    · rw [← e]; exact h.1 u hu
/-- one first place of it -/
theorem IsFirst.unique {f : ℕ → EReal} {n v v' : ℕ} (h : IsFirst f n v) (h' : IsFirst f n v') : v = v' := by
  rcases Nat.lt_trichotomy v v' with hl | hl | hl
  · exact absurd (h'.2.2 v hl) (not_lt.mpr (h.2.1 v' h'.1))
  · exact hl
  · exact absurd (h.2.2 v' hl) (not_lt.mpr (h'.2.1 v h.1))
/-- and one largest of the others. -/
theorem IsNext.unique {f : ℕ → EReal} {n v : ℕ} {s s' : EReal} (h : IsNext f n v s) (h' : IsNext f n v s') : s = s' := by
  refine le_antisymm ?_ ?_
  · rcases h.2 with h0 | ⟨u, hu, hne, e⟩
    · rw [h0]; exact bot_le
    · rw [← e]; exact h'.1 u hu hne
  · rcases h'.2 with h0 | ⟨u, hu, hne, e⟩
    · rw [h0]; exact bot_le
    · rw [← e]; exact h.1 u hu hne

/-- What a lane's scan holds after `n` entries: the largest, the largest of the others, and the first place of the largest
    (place zero before any entry). -/
structure Scan (f : ℕ → EReal) (n : ℕ) (s1 s2 : EReal) (k : ℕ) : Prop where
  le : ∀ u < n, f u ≤ s1
  at_k : (n = 0 ∧ s1 = ⊥ ∧ k = 0) ∨ (k < n ∧ f k = s1)
  lt : ∀ u < k, f u < s1
  next : IsNext f n k s2

/-- Before any entry. -/
theorem Scan.start (f : ℕ → EReal) : Scan f 0 ⊥ ⊥ 0 :=
  ⟨fun _ h => absurd h (Nat.not_lt_zero _), .inl ⟨rfl, rfl, rfl⟩, fun _ h => absurd h (Nat.not_lt_zero _),
    fun _ h => absurd h (Nat.not_lt_zero _), .inl rfl⟩

/-- One more entry. -/
theorem Scan.step {f : ℕ → EReal} {n : ℕ} {s1 s2 : EReal} {k : ℕ} (h : Scan f n s1 s2 k) :
    Scan f (n + 1) (max s1 (f n)) (max s2 (min s1 (f n))) (if s1 < f n then n else k) := by
  by_cases hlt : s1 < f n
  · rw [if_pos hlt, max_eq_right hlt.le, min_eq_left hlt.le]
    refine ⟨fun u hu => ?_, .inr ⟨Nat.lt_succ_self n, rfl⟩, fun u hu => (h.le u hu).trans_lt hlt, fun u hu hne => ?_, ?_⟩
    · rcases Nat.lt_succ_iff_lt_or_eq.mp hu with hu | rfl
      · exact (h.le u hu).trans hlt.le
      · exact le_rfl
    · rcases Nat.lt_succ_iff_lt_or_eq.mp hu with hu | rfl
      · exact (h.le u hu).trans (le_max_right _ _)
      · exact absurd rfl hne
    · rcases le_total s2 s1 with hs | hs
      · rw [max_eq_right hs]
        rcases h.at_k with ⟨_, h0, _⟩ | ⟨hk, e⟩
        · exact .inl h0
        · exact .inr ⟨k, by omega, by omega, e⟩
      · rw [max_eq_left hs]
        rcases h.next.2 with h0 | ⟨u, hu, _, e⟩
        · exact .inl h0
        · exact .inr ⟨u, by omega, by omega, e⟩
  · have hle := not_lt.mp hlt
    rw [if_neg hlt, max_eq_left hle, min_eq_right hle]
    refine ⟨fun u hu => ?_, ?_, h.lt, fun u hu hne => ?_, ?_⟩
    · rcases Nat.lt_succ_iff_lt_or_eq.mp hu with hu | rfl
      · exact h.le u hu
      · exact hle
    · rcases h.at_k with ⟨hn, h0, hk⟩ | ⟨hk, e⟩
      · subst hn; subst hk
        exact .inr ⟨Nat.lt_succ_self 0, by rw [h0] at hle ⊢; exact le_bot_iff.mp hle⟩
      · exact .inr ⟨by omega, e⟩
    · rcases Nat.lt_succ_iff_lt_or_eq.mp hu with hu | rfl
      · exact (h.next.1 u hu hne).trans (le_max_left _ _)
      · exact le_max_right _ _
    · rcases le_total s2 (f n) with hs | hs
      · rw [max_eq_right hs]
        rcases h.at_k with ⟨hn, h0, hk⟩ | ⟨hk, e⟩
        · rw [h0] at hle; exact .inl (le_bot_iff.mp hle)
        · exact .inr ⟨n, by omega, by omega, rfl⟩
      · rw [max_eq_left hs]
        rcases h.next.2 with h0 | ⟨u, hu, hne, e⟩
        · exact .inl h0
        · exact .inr ⟨u, by omega, hne, e⟩

/-- The lanes' scans together: entry `128 b + q` of the row is entry `b` of lane `q`. -/
structure Lanes (f : ℕ → EReal) (N : ℕ) (a b : ℕ → EReal) (x : ℕ → ℕ) : Prop where
  scan : ∀ q < 128, Scan (fun p => f (p * 128 + q)) N (a q) (b q) (x q)

section
variable {f : ℕ → EReal} {N : ℕ} {a b : ℕ → EReal} {x : ℕ → ℕ} (h : Lanes f N a b x) (hN : 0 < N)
include h hN

/-- Every entry is at most its lane's largest. -/
theorem Lanes.le (u : ℕ) (hu : u < N * 128) : f u ≤ a (u % 128) := by
  have e := (h.scan (u % 128) (Nat.mod_lt _ (by decide))).le (u / 128) (by omega)
  rwa [show u / 128 * 128 + u % 128 = u by omega] at e

/-- Each lane's largest is the entry at the place it keeps. -/
theorem Lanes.at_x (q : ℕ) (hq : q < 128) : x q < N ∧ f (x q * 128 + q) = a q := by
  rcases (h.scan q hq).at_k with ⟨h0, _⟩ | h1
  · omega
  · exact h1

/-- The largest of the lanes' largest entries is the row's largest. -/
theorem Lanes.top {t : EReal} (ht : IsTop a 128 t) : IsTop f (N * 128) t := by
  refine ⟨fun u hu => (h.le hN u hu).trans (ht.1 _ (Nat.mod_lt _ (by decide))), ?_⟩
  rcases ht.2 with h0 | ⟨q, hq, e⟩
  · exact .inl h0
  · obtain ⟨hx, ex⟩ := h.at_x hN q hq
    exact .inr ⟨x q * 128 + q, by omega, ex.trans e⟩

/-- The least of the kept places, over the lanes whose largest is the row's, is the first place of the row's largest. -/
theorem Lanes.first {t : EReal} {v : ℕ} (ht : IsTop a 128 t) (hv : ∃ q < 128, a q = t ∧ v = x q * 128 + q)
    (hmin : ∀ q < 128, a q = t → v ≤ x q * 128 + q) : IsFirst f (N * 128) v := by
  have hT := h.top hN ht
  obtain ⟨q, hq, e, rfl⟩ := hv
  obtain ⟨hx, ex⟩ := h.at_x hN q hq
  refine ⟨by omega, fun u hu => by rw [ex, e]; exact hT.1 u hu, fun u hu => ?_⟩
  rw [ex, e]
  refine lt_of_le_of_ne (hT.1 u (by omega)) fun heq => ?_
  have hle := h.le hN u (by omega)
  have hq' : u % 128 < 128 := Nat.mod_lt _ (by decide)
  have ha : a (u % 128) = t := le_antisymm (ht.1 _ hq') (heq ▸ hle)
  have hm := hmin _ hq' ha
  have hlt : u / 128 < x (u % 128) := by omega
  have := (h.scan _ hq').lt _ hlt
  rw [ha] at this
  simp only [show u / 128 * 128 + u % 128 = u by omega] at this
  exact absurd heq this.ne

/-- The largest over the lanes, with the second entry of the lane that holds `v` in place of its first, is the largest of
    the row's entries but that at `v`. -/
theorem Lanes.next {v : ℕ} {s : EReal} (hv : ∃ q < 128, v = x q * 128 + q)
    (hs : IsTop (fun q => if x q * 128 + q = v then b q else a q) 128 s) : IsNext f (N * 128) v s := by
  obtain ⟨q, hq, rfl⟩ := hv
  refine ⟨fun u hu hne => ?_, ?_⟩
  · have hu' : u % 128 < 128 := Nat.mod_lt _ (by decide)
    have e := hs.1 (u % 128) hu'
    refine le_trans ?_ e
    show f u ≤ if x (u % 128) * 128 + u % 128 = x q * 128 + q then b (u % 128) else a (u % 128)
    by_cases hc : x (u % 128) * 128 + u % 128 = x q * 128 + q
    · rw [if_pos hc]
      have e := (h.scan _ hu').next.1 (u / 128) (by omega) (by omega)
      simp only at e
      rwa [show u / 128 * 128 + u % 128 = u by omega] at e
    · rw [if_neg hc]; exact h.le hN u hu
  · rcases hs.2 with h0 | ⟨p, hp, e⟩
    · exact .inl h0
    · simp only at e
      by_cases hc : x p * 128 + p = x q * 128 + q
      · rw [if_pos hc] at e
        have hpq : p = q := by omega
        rcases (h.scan p hp).next.2 with h0 | ⟨u, hu, hne, e'⟩
        · exact .inl (e.symm.trans h0)
        · exact .inr ⟨u * 128 + p, by omega, by subst hpq; omega, e'.trans e⟩
      · rw [if_neg hc] at e
        obtain ⟨hx, ex⟩ := h.at_x hN p hp
        exact .inr ⟨x p * 128 + p, by omega, hc, ex.trans e⟩

end

/-- A finite row as a function of every place, `⊥` outside the row. -/
def tab {n : ℕ} (g : Fin n → EReal) : ℕ → EReal := fun v => if h : v < n then g ⟨v, h⟩ else ⊥

/-- Inside the row it is the row. -/
theorem tab_lt {n : ℕ} (g : Fin n → EReal) (v : ℕ) (h : v < n) : tab g v = g ⟨v, h⟩ := dif_pos h

/-- The same three facts hold of any function that agrees with it on the row. -/
theorem IsTop.congr {f f' : ℕ → EReal} {n : ℕ} {t : EReal} (h : IsTop f n t) (e : ∀ u < n, f u = f' u) : IsTop f' n t :=
  ⟨fun u hu => e u hu ▸ h.1 u hu, h.2.imp id fun ⟨u, hu, eu⟩ => ⟨u, hu, (e u hu).symm.trans eu⟩⟩

/-- A fold by `max` from `⊥` is the largest entry. -/
theorem isTop_fold {n : ℕ} (g : Fin n → EReal) : IsTop (tab g) n (Finset.univ.fold max ⊥ g) := by
  have e : Finset.univ.fold max ⊥ g = Finset.univ.sup g := rfl
  rw [e]
  refine ⟨fun u hu => ?_, ?_⟩
  · rw [tab_lt g u hu]; exact Finset.le_sup (Finset.mem_univ _)
  · rcases Nat.eq_zero_or_pos n with h0 | h0
    · subst h0; exact .inl rfl
    · obtain ⟨k, _, hk⟩ := Finset.exists_mem_eq_sup (Finset.univ : Finset (Fin n)) ⟨⟨0, h0⟩, Finset.mem_univ _⟩ g
      exact .inr ⟨k.val, k.isLt, (tab_lt g k.val k.isLt).trans hk.symm⟩

/-- The largest with one entry put to `⊥` is the largest of the others. -/
theorem IsTop.isNext {f f' : ℕ → EReal} {n v : ℕ} {s : EReal} (h : IsTop f' n s) (he : f' v = ⊥) (hne : ∀ u < n, u ≠ v → f' u = f u) :
    IsNext f n v s := by
  refine ⟨fun u hu hn => hne u hu hn ▸ h.1 u hu, ?_⟩
  rcases h.2 with h0 | ⟨u, hu, e⟩
  · exact .inl h0
  · by_cases hv : u = v
    · subst hv; exact .inl (e.symm.trans he)
    · exact .inr ⟨u, hu, hv, (hne u hu hv).symm.trans e⟩

end Cert.Top2

end
-- ==== Proof.BlockValue.lean ====
/-
  What the kernel's block computations are, entry by entry: a block's weights and logits, one point of each lane's scan, and the
  last point's search over the lanes.
-/
module

public import proofs.«01_k».proof.Proof.IdealCases
public import proofs.«01_k».proof.Proof.Nibble
public import proofs.«01_k».proof.Proof.Top2
public import Idealize.ShloMosaic.Lib.Pointwise

@[expose] public section

set_option maxRecDepth 16384

noncomputable section

namespace Cert.KernelIdeal.Gen

open Cert.Nibble Cert.Top2
open Idealize.ShloMosaic Idealize.ShloMosaic.TcCoe Idealize.SL.Sem

/-! ## The logits of a block -/

/-- One group's weights: a code's value by the group's scale. -/
theorem slab_apply (v3 : Vec Ideal S16x512 .i32) (v16 : Vec Ideal S1x512 .bf16) (d : Fin 128) (q : Fin 512) :
    (slab v3 v16 (ix2 d q) : EReal) = value (v3 (ix2 (⟨d.val / 8, by omega⟩ : Fin 16) q)) (d.val % 8) * (v16 (ix2 (0 : Fin 1) q) : EReal) := by
  pointwise [slab, k0_pay12]
  rw [value_flip _ _ (by omega)]

/-- Row `d` of a block's weights: place `d % 8` of word `d / 8`, by the scale of group `d / 128`. -/
theorem wblk_apply (x1 : Vec Ideal S768x512 .i32) (x2 : Vec Ideal S48x512 .bf16) (d : Fin 6144) (q : Fin 512) :
    (wblk x1 x2 (ix2 d q) : EReal)
      = value (x1 (ix2 (⟨d.val / 8, by omega⟩ : Fin 768) q)) (d.val % 8) * (x2 (ix2 (⟨d.val / 128, by omega⟩ : Fin 48) q) : EReal) := by
  refine (slab_apply _ _ (⟨d.val % 128, Nat.mod_lt _ (by decide)⟩ : Fin 128) q).trans ?_
  have e1 : rows16 x1 (d.val / 128) (by omega) (ix2 (⟨d.val % 128 / 8, by omega⟩ : Fin 16) q) = x1 (ix2 (⟨d.val / 8, by omega⟩ : Fin 768) q) := by
    unfold rows16
    refine congrArg x1 (funext fun a => ?_)
    fin_cases a
    · exact Fin.ext (show 16 * (d.val / 128) + 1 * (d.val % 128 / 8) = d.val / 8 by omega)
    · exact Fin.ext (show 0 + 1 * q.val = q.val by omega)
  have e2 : row1 x2 (d.val / 128) (by omega) (ix2 (0 : Fin 1) q) = x2 (ix2 (⟨d.val / 128, by omega⟩ : Fin 48) q) := by
    unfold row1
    refine congrArg x2 (funext fun a => ?_)
    fin_cases a
    · exact Fin.ext (show d.val / 128 + 1 * 0 = d.val / 128 by omega)
    · exact Fin.ext (show 0 + 1 * q.val = q.val by omega)
  have e3 : d.val % 128 % 8 = d.val % 8 := by omega
  exact congrArg₂ (fun z z' : EReal => z * z') (congrArg₂ value e1 e3) e2

/-- A block's logits are sums over the features in order. -/
theorem acc_apply (x0 : Vec Ideal S640x6144 .bf16) (x1 : Vec Ideal S768x512 .i32) (x2 : Vec Ideal S48x512 .bf16) (r : Fin 640) (q : Fin 512) :
    (acc x0 x1 x2 (ix2 r q) : EReal) = ∑ d : Fin 6144, (x0 (ix2 r d) : EReal)
      * (value (x1 (ix2 (⟨d.val / 8, by omega⟩ : Fin 768) q)) (d.val % 8) * (x2 (ix2 (⟨d.val / 128, by omega⟩ : Fin 48) q) : EReal)) := by
  pointwise [acc, k0_pay85]
  exact Finset.sum_congr rfl fun d _ => congrArg (fun z : EReal => (x0 (ix2 r d) : EReal) * z) (wblk_apply x1 x2 d q)

/-! ## One point of the scan -/

/-- The running largest takes the block's four entries of the lane in turn, -/
theorem st1_apply (a : FVec Ideal S640x512 .f32) (s1 : Vec Ideal S640x128 .f32) (r : Fin 640) (q : Fin 128) :
    (st1 a s1 (ix2 r q) : EReal) = max (max (max (max (s1 (ix2 r q) : EReal) (a (ix2 r (⟨q.val, by omega⟩ : Fin 512)))) (a (ix2 r (⟨128 + q.val, by omega⟩ : Fin 512))))
      (a (ix2 r (⟨256 + q.val, by omega⟩ : Fin 512)))) (a (ix2 r (⟨384 + q.val, by omega⟩ : Fin 512))) := by
  pointwise [st1, k0_pay1, k0_pay99, k0_pay95, k0_pay96, k0_pay93, k0_pay94, k0_pay91, k0_pay92, k0_pay90]
/-- so does the second largest, against the largest so far, -/
theorem st2_apply (a : FVec Ideal S640x512 .f32) (s1 s2 : Vec Ideal S640x128 .f32) (r : Fin 640) (q : Fin 128) :
    (st2 a s1 s2 (ix2 r q) : EReal) =
      max (max (max (max (s2 (ix2 r q) : EReal) (min (s1 (ix2 r q) : EReal) (a (ix2 r (⟨q.val, by omega⟩ : Fin 512)))))
        (min (max (s1 (ix2 r q) : EReal) (a (ix2 r (⟨q.val, by omega⟩ : Fin 512)))) (a (ix2 r (⟨128 + q.val, by omega⟩ : Fin 512)))))
        (min (max (max (s1 (ix2 r q) : EReal) (a (ix2 r (⟨q.val, by omega⟩ : Fin 512)))) (a (ix2 r (⟨128 + q.val, by omega⟩ : Fin 512)))) (a (ix2 r (⟨256 + q.val, by omega⟩ : Fin 512)))))
        (min (max (max (max (s1 (ix2 r q) : EReal) (a (ix2 r (⟨q.val, by omega⟩ : Fin 512)))) (a (ix2 r (⟨128 + q.val, by omega⟩ : Fin 512)))) (a (ix2 r (⟨256 + q.val, by omega⟩ : Fin 512))))
          (a (ix2 r (⟨384 + q.val, by omega⟩ : Fin 512)))) := by
  pointwise [st2, k0_pay2, k0_pay97, k0_pay95, k0_pay96, k0_pay93, k0_pay94, k0_pay91, k0_pay92, k0_pay90]
/-- and the place kept is the last entry that was larger than all before it. -/
theorem st3_apply (i : grid0.Coords) (a : FVec Ideal S640x512 .f32) (s1 : Vec Ideal S640x128 .f32) (s3 : Vec Ideal S640x128 .i32) (r : Fin 640) (q : Fin 128) :
    st3 i a s1 s3 (ix2 r q) =
      if max (max (max (s1 (ix2 r q) : EReal) (a (ix2 r (⟨q.val, by omega⟩ : Fin 512)))) (a (ix2 r (⟨128 + q.val, by omega⟩ : Fin 512)))) (a (ix2 r (⟨256 + q.val, by omega⟩ : Fin 512)))
          < a (ix2 r (⟨384 + q.val, by omega⟩ : Fin 512)) then Scalar.addi (Scalar.muli (BitVec.ofNat 32 (i 0).val) 4#32) 3#32
      else if max (max (s1 (ix2 r q) : EReal) (a (ix2 r (⟨q.val, by omega⟩ : Fin 512)))) (a (ix2 r (⟨128 + q.val, by omega⟩ : Fin 512))) < a (ix2 r (⟨256 + q.val, by omega⟩ : Fin 512)) then
        Scalar.addi (Scalar.muli (BitVec.ofNat 32 (i 0).val) 4#32) 2#32
      else if max (s1 (ix2 r q) : EReal) (a (ix2 r (⟨q.val, by omega⟩ : Fin 512))) < a (ix2 r (⟨128 + q.val, by omega⟩ : Fin 512)) then
        Scalar.addi (Scalar.muli (BitVec.ofNat 32 (i 0).val) 4#32) 1#32
      else if (s1 (ix2 r q) : EReal) < a (ix2 r (⟨q.val, by omega⟩ : Fin 512)) then Scalar.addi (Scalar.muli (BitVec.ofNat 32 (i 0).val) 4#32) 0#32
      else s3 (ix2 r q) := by
  pointwise [st3, k0_pay3, k0_pay98, k0_pay95, k0_pay96, k0_pay93, k0_pay94, k0_pay91, k0_pay92, k0_pay90]

/-- A place's word. -/
theorem place_word (j c : ℕ) : Scalar.addi (Scalar.muli (BitVec.ofNat 32 j) 4#32) (BitVec.ofNat 32 c) = BitVec.ofNat 32 (4 * j + c) := by
  show BitVec.ofNat 32 j * BitVec.ofNat 32 4 + BitVec.ofNat 32 c = _
  rw [← BitVec.ofNat_mul, ← BitVec.ofNat_add, Nat.mul_comm]

/-- One point carries a lane's scan four entries on. -/
theorem scan_block (f : ℕ → EReal) (i : grid0.Coords) (a : FVec Ideal S640x512 .f32) (s1 s2 : Vec Ideal S640x128 .f32) (s3 : Vec Ideal S640x128 .i32)
    (r : Fin 640) (q : Fin 128) (N : ℕ) (hN : N = 4 * (i 0).val)
    (h0 : f N = a (ix2 r (⟨q.val, by omega⟩ : Fin 512))) (h1 : f (N + 1) = a (ix2 r (⟨128 + q.val, by omega⟩ : Fin 512)))
    (h2 : f (N + 2) = a (ix2 r (⟨256 + q.val, by omega⟩ : Fin 512))) (h3 : f (N + 3) = a (ix2 r (⟨384 + q.val, by omega⟩ : Fin 512)))
    (hs : ∃ k, Scan f N (s1 (ix2 r q)) (s2 (ix2 r q)) k ∧ s3 (ix2 r q) = BitVec.ofNat 32 k) :
    ∃ k, Scan f (N + 4) (st1 a s1 (ix2 r q)) (st2 a s1 s2 (ix2 r q)) k ∧ st3 i a s1 s3 (ix2 r q) = BitVec.ofNat 32 k := by
  obtain ⟨k, hs, hk⟩ := hs
  have e := hs.step.step.step.step
  rw [st1_apply, st2_apply, st3_apply]
  rw [h3, h2, h1, h0] at e
  refine ⟨_, e, ?_⟩
  have w3 := place_word (i 0).val 3
  have w2 := place_word (i 0).val 2
  have w1 := place_word (i 0).val 1
  have w0 := place_word (i 0).val 0
  rw [← hN] at w0 w1 w2 w3
  rw [w0, w1, w2, w3, hk]
  simp only [apply_ite (BitVec.ofNat 32)]
  rfl

/-! ## The last point's search over the lanes -/

/-- The largest of the lanes. -/
theorem pay6_apply (a : Vec Ideal S640x128 .f32) (r : Fin 640) :
    (k0_pay6 a (ix2 (0 : Fin 1) r) : EReal) = Finset.univ.fold max ⊥ (fun q : Fin 128 => (a (ix2 r q) : EReal)) := by
  pointwise [k0_pay6, k0_pay4]
  rw [ofBits_bot]
/-- The least place among the lanes that hold it. -/
theorem pay7_apply (a : Vec Ideal S640x128 .f32) (x : Vec Ideal S640x128 .i32) (r : Fin 640) :
    k0_pay7 a x (ix2 (0 : Fin 1) r) = Finset.univ.fold IntOp.minsi 2147483647#32 (fun q : Fin 128 =>
      if (a (ix2 r q) : EReal) = k0_pay6 a (ix2 (0 : Fin 1) r) then IntOp.addi (IntOp.muli (x (ix2 r q)) 128#32) (BitVec.ofNat 32 q.val) else 32768#32) := by
  pointwise [k0_pay7, k0_pay5, k0_pay4]
/-- The largest less the largest of the lanes, the second of the token's lane in place of its first. -/
theorem pay8_apply (a b : Vec Ideal S640x128 .f32) (x : Vec Ideal S640x128 .i32) (r : Fin 640) :
    (k0_pay8 a b x (ix2 (0 : Fin 1) r) : EReal) = (k0_pay6 a (ix2 (0 : Fin 1) r) : EReal) - Finset.univ.fold max ⊥ (fun q : Fin 128 =>
      if IntOp.addi (IntOp.muli (x (ix2 r q)) 128#32) (BitVec.ofNat 32 q.val) = k0_pay7 a x (ix2 (0 : Fin 1) r) then (b (ix2 r q) : EReal) else a (ix2 r q)) := by
  pointwise [k0_pay8, k0_pay5, k0_pay4]
  rw [ofBits_bot]
  refine congrArg (fun g : Fin 128 → EReal => (k0_pay6 a (ix2 (0 : Fin 1) r) : EReal) - Finset.univ.fold max ⊥ g) (funext fun q => ?_)
  generalize IntOp.addi (IntOp.muli (x (ix2 r q)) 128#32) (BitVec.ofNat 32 q.val) = u
  generalize k0_pay7 a x (ix2 (0 : Fin 1) r) = v
  by_cases h : u = v
  · subst h; rw [if_pos rfl]; simp [IntOp.cmpi, Scalar.select]
  · rw [if_neg h]; simp only [IntOp.cmpi, Scalar.select, beq_eq_false_iff_ne.mpr h]; rfl
/-- The scan starts from the least values, -/
theorem pay9_apply (r : Fin 640) (q : Fin 128) : (k0_pay9 (F := Ideal) (ix2 r q) : EReal) = ⊥ := by
  pointwise [k0_pay9]
  rw [ofBits_bot]
/-- both, -/
theorem pay10_apply (r : Fin 640) (q : Fin 128) : (k0_pay10 (F := Ideal) (ix2 r q) : EReal) = ⊥ := by
  pointwise [k0_pay10]
  rw [ofBits_bot]
/-- and from place zero. -/
theorem pay11_apply (r : Fin 640) (q : Fin 128) : k0_pay11 (ix2 r q) = 0#32 := by
  pointwise [k0_pay11]

/-- The smaller of two words that are small numbers. -/
theorem minsi_ofNat (u v : ℕ) (hu : u < 2 ^ 31) (hv : v < 2 ^ 31) : IntOp.minsi (BitVec.ofNat 32 u) (BitVec.ofNat 32 v) = BitVec.ofNat 32 (min u v) := by
  have e : ∀ n : ℕ, n < 2 ^ 31 → (BitVec.ofNat 32 n).toInt = (n : ℤ) := fun n hn => by
    rw [BitVec.toInt_eq_toNat_cond, BitVec.toNat_ofNat, show n % 2 ^ 32 = n by omega, if_pos (by omega)]
  unfold IntOp.minsi
  simp only [BitVec.slt, e u hu, e v hv, decide_eq_true_eq, Nat.cast_lt]
  rcases lt_or_ge u v with h | h
  · rw [if_pos h, min_eq_left h.le]
  · rw [if_neg (not_lt.mpr h), min_eq_right h]

/-- The least of words that are small numbers. -/
theorem fold_minsi (g : Fin 128 → ℕ) (hg : ∀ q, g q < 2 ^ 31) (S : Finset (Fin 128)) :
    ∃ M, M < 2 ^ 31 ∧ S.fold IntOp.minsi 2147483647#32 (fun q => BitVec.ofNat 32 (g q)) = BitVec.ofNat 32 M
      ∧ (∀ q ∈ S, M ≤ g q) ∧ (M = 2147483647 ∨ ∃ q ∈ S, M = g q) := by
  classical
  induction S using Finset.induction_on with
  | empty => exact ⟨2147483647, by norm_num, rfl, fun q h => absurd h (Finset.notMem_empty q), .inl rfl⟩
  | insert p S hp ih =>
    obtain ⟨M, hM, e, hle, hat⟩ := ih
    refine ⟨min (g p) M, lt_of_le_of_lt (min_le_right _ _) hM, ?_, fun q hq => ?_, ?_⟩
    · rw [Finset.fold_insert hp, e]
      exact minsi_ofNat _ _ (hg p) hM
    · rcases Finset.mem_insert.mp hq with rfl | hq
      · exact min_le_left _ _
      · exact (min_le_right _ _).trans (hle q hq)
    · rcases le_total (g p) M with h | h
      · rw [min_eq_left h]; exact .inr ⟨p, Finset.mem_insert_self _ _, rfl⟩
      · rw [min_eq_right h]
        rcases hat with h | ⟨q, hq, h⟩
        · exact .inl h
        · exact .inr ⟨q, Finset.mem_insert_of_mem hq, h⟩

/-- A lane's place in the row, as a word. -/
theorem lane_word (k q : ℕ) : IntOp.addi (IntOp.muli (BitVec.ofNat 32 k) 128#32) (BitVec.ofNat 32 q) = BitVec.ofNat 32 (k * 128 + q) := by
  show BitVec.ofNat 32 k * BitVec.ofNat 32 128 + BitVec.ofNat 32 q = _
  rw [← BitVec.ofNat_mul, ← BitVec.ofNat_add]

/-- From the lanes' scans of a row the search finds the row's largest entry, its first place, and the largest of the others. -/
theorem search (f : ℕ → EReal) (a b : Vec Ideal S640x128 .f32) (x : Vec Ideal S640x128 .i32) (r : Fin 640)
    (h : ∀ q : Fin 128, ∃ k, Scan (fun p => f (p * 128 + q.val)) 256 (a (ix2 r q)) (b (ix2 r q)) k ∧ x (ix2 r q) = BitVec.ofNat 32 k) :
    IsTop f 32768 (k0_pay6 a (ix2 (0 : Fin 1) r))
      ∧ ∃ v, IsFirst f 32768 v ∧ k0_pay7 a x (ix2 (0 : Fin 1) r) = BitVec.ofNat 32 v
        ∧ ∃ s, IsNext f 32768 v s ∧ (k0_pay8 a b x (ix2 (0 : Fin 1) r) : EReal) = (k0_pay6 a (ix2 (0 : Fin 1) r) : EReal) - s := by
  choose k hs hk using h
  have hL : Lanes f 256 (tab fun q : Fin 128 => (a (ix2 r q) : EReal)) (tab fun q : Fin 128 => (b (ix2 r q) : EReal))
      (fun q => if hq : q < 128 then k ⟨q, hq⟩ else 0) := ⟨fun q hq => by
    rw [tab_lt _ q hq, tab_lt _ q hq, dif_pos hq]
    exact hs ⟨q, hq⟩⟩
  have h0 : 0 < 256 := by norm_num
  have hkl : ∀ q : Fin 128, k q < 256 := fun q => by
    have := (hL.at_x h0 q.val q.isLt).1
    rwa [dif_pos q.isLt] at this
  have hT : IsTop (tab fun q : Fin 128 => (a (ix2 r q) : EReal)) 128 (k0_pay6 a (ix2 (0 : Fin 1) r)) := by
    rw [pay6_apply]; exact isTop_fold _
  have h7 : k0_pay7 a x (ix2 (0 : Fin 1) r) = Finset.univ.fold IntOp.minsi 2147483647#32 (fun q : Fin 128 =>
      BitVec.ofNat 32 (if (a (ix2 r q) : EReal) = k0_pay6 a (ix2 (0 : Fin 1) r) then k q * 128 + q.val else 32768)) := by
    rw [pay7_apply]
    refine congrArg (fun g : Fin 128 → BitVec 32 => Finset.univ.fold IntOp.minsi 2147483647#32 g) (funext fun q => ?_)
    rw [hk q, lane_word, apply_ite (BitVec.ofNat 32)]
  have h8 := pay8_apply a b x r
  revert hT h7 h8
  generalize (k0_pay6 a (ix2 (0 : Fin 1) r) : EReal) = t
  intro hT h7 h8
  obtain ⟨M, hM, e, hle, hat⟩ := fold_minsi (fun q : Fin 128 => if (a (ix2 r q) : EReal) = t then k q * 128 + q.val else 32768)
    (fun q => by
      have h1 := hkl q
      have h2 := q.isLt
      by_cases hq : (a (ix2 r q) : EReal) = t
      · simp only [if_pos hq]; omega
      · simp only [if_neg hq]; norm_num) Finset.univ
  rw [e] at h7
  have hmin : ∀ q : Fin 128, (a (ix2 r q) : EReal) = t → M ≤ k q * 128 + q.val := fun q hq => by
    have := hle q (Finset.mem_univ _)
    simp only [if_pos hq] at this
    exact this
  have hex : ∃ q : Fin 128, (a (ix2 r q) : EReal) = t := by
    rcases hT.2 with hb | ⟨q, hq, e⟩
    · refine ⟨0, ?_⟩
      have := hT.1 0 (by norm_num)
      rw [tab_lt _ 0 (by norm_num), hb] at this
      rw [hb]; exact le_bot_iff.mp this
    · rw [tab_lt _ q hq] at e
      exact ⟨⟨q, hq⟩, e⟩
  obtain ⟨p, hp⟩ := hex
  have hMp := hmin p hp
  have hkp := hkl p
  have hat' : ∃ q : Fin 128, (a (ix2 r q) : EReal) = t ∧ M = k q * 128 + q.val := by
    rcases hat with h | ⟨q, _, h⟩
    · have := p.isLt; omega
    · by_cases hq : (a (ix2 r q) : EReal) = t
      · simp only [if_pos hq] at h
        exact ⟨q, hq, h⟩
      · simp only [if_neg hq] at h
        have := p.isLt; omega
  obtain ⟨q, hq, hMq⟩ := hat'
  refine ⟨hL.top h0 hT, M, hL.first h0 hT ⟨q.val, q.isLt, ?_, ?_⟩ (fun u hu hau => ?_), h7, _, hL.next h0 ⟨q.val, q.isLt, ?_⟩ ?_, h8⟩
  · rw [tab_lt _ q.val q.isLt]; exact hq
  · rw [dif_pos q.isLt]; exact hMq
  · rw [tab_lt _ u hu] at hau
    rw [dif_pos hu]; exact hmin ⟨u, hu⟩ hau
  · rw [dif_pos q.isLt]; exact hMq
  · refine (isTop_fold _).congr fun u hu => ?_
    rw [tab_lt _ u hu, tab_lt _ u hu, tab_lt _ u hu, dif_pos hu, h7, hk ⟨u, hu⟩, lane_word]
    have := hkl ⟨u, hu⟩
    by_cases hc : k ⟨u, hu⟩ * 128 + u = M
    · rw [if_pos hc, if_pos (congrArg _ hc)]
    · rw [if_neg hc, if_neg]
      intro e
      have := congrArg BitVec.toNat e
      rw [BitVec.toNat_ofNat, BitVec.toNat_ofNat] at this
      apply hc
      have hM' : M % 2 ^ 32 = M := Nat.mod_eq_of_lt (by omega)
      have hk' : (k ⟨u, hu⟩ * 128 + u) % 2 ^ 32 = k ⟨u, hu⟩ * 128 + u := Nat.mod_eq_of_lt (by omega)
      exact hk'.symm.trans (this.trans hM')

end Cert.KernelIdeal.Gen

end
-- ==== Proof.RowValue.lean ====
/-
  The kernel's running values over the whole grid: a block of logits as the row's entries, the scan of each lane through the
  points, and what the last point leaves of a row.
-/
module

public import proofs.«01_k».proof.Proof.IdealFrame
public import proofs.«01_k».proof.Proof.BlockValue
public import Idealize.ShloMosaic.Lib.Pipeline.ValueKit

@[expose] public section

set_option maxRecDepth 16384

noncomputable section

namespace Cert.KernelIdeal.Gen

open Cert.Nibble Cert.Top2
open Idealize.ShloMosaic Idealize.ShloMosaic.TcCoe Idealize.SL.Sem
open Idealize.ShloMosaic.Pipeline (Dat)

variable (m : (ℓ : Loc nD τ sig) → Buf (Elt Ideal) ℓ)

/-- The activations, -/
abbrev argX (c : Dev nD) : Vec Ideal S640x1x6144 .bf16 := m ((c : Thread nD τ).loc main_arg0)
/-- the packed weights -/
abbrev argW (c : Dev nD) : Vec Ideal S768x32768 .i32 := m ((c : Thread nD τ).loc main_arg1)
/-- and the scales. -/
abbrev argS (c : Dev nD) : Vec Ideal S48x32768 .bf16 := m ((c : Thread nD τ).loc main_arg2)

/-- The logit of row `r` and column `v`. -/
def lgK (c : Dev nD) (r : Fin 640) (v : Fin 32768) : EReal :=
  logit (fun r d => argX m c (ix3 r (0 : Fin 1) d)) (fun d v => argW m c (ix2 d v)) (fun g v => argS m c (ix2 g v)) r v

/-- Where each window's block lies. -/
theorem idx_val : ∀ t : Fin cfg0.N, win0_0.index t = ![0, 0] ∧ win0_1.index t = ![0, t.val] ∧ win0_2.index t = ![0, t.val]
    ∧ win0_3.index t = ![0, 0] ∧ win0_4.index t = ![0, 0] ∧ win0_5.index t = ![0, 0] ∧ win0_6.index t = ![0, t.val, 0, 0] ∧ (grid0.coords t 0).val = t.val :=
  (by decide +kernel : ∀ t : Fin grid0.N, _)

/-- The activations as the pipeline finds them: the same, without the middle axis. -/
theorem V_main_v0 (c : Dev nD) : (V m c main_v0 : Vec Ideal S640x6144 .bf16) = shapeCast S640x6144 (argX m c) shapeCasts_S640x1x6144_S640x6144 := by
  unfold V V0
  simp only [List.flatten_cons, List.flatten_nil, List.append_nil]
  after_results
  rfl

/-- Every point reads all the activations, -/
theorem iblk0_apply (c : Dev nD) (t : Fin cfg0.N) (r : Fin 640) (d : Fin 6144) :
    (iblk m c 0 t : Vec Ideal S640x6144 .bf16) (ix2 r d) = argX m c (ix3 r (0 : Fin 1) d) := by
  have e : (iblk m c 0 t : Vec Ideal S640x6144 .bf16) (ix2 r d) = (V m c main_v0 : Vec Ideal S640x6144 .bf16) (ix2 r d) := by
    blk_ext [iblk, idx_val t]
  rw [e, V_main_v0]
  pointwise
/-- point `t` the 512 columns from `512 t` on of the weights -/
theorem iblk1_apply (c : Dev nD) (t : Fin cfg0.N) (d : Fin 768) (q : Fin 512) :
    (iblk m c 1 t : Vec Ideal S768x512 .i32) (ix2 d q) = argW m c (ix2 d (⟨512 * t.val + q.val, by have := lt_of_lt_of_eq t.isLt (show cfg0.N = 64 from N_0); omega⟩ : Fin 32768)) := by
  blk_ext [iblk, V, idx_val t]
/-- and of the scales. -/
theorem iblk2_apply (c : Dev nD) (t : Fin cfg0.N) (g : Fin 48) (q : Fin 512) :
    (iblk m c 2 t : Vec Ideal S48x512 .bf16) (ix2 g q) = argS m c (ix2 g (⟨512 * t.val + q.val, by have := lt_of_lt_of_eq t.isLt (show cfg0.N = 64 from N_0); omega⟩ : Fin 32768)) := by
  blk_ext [iblk, V, idx_val t]

/-- So its block of logits is the row's 512 entries from `512 t` on. -/
theorem blk_apply (c : Dev nD) (t : Fin cfg0.N) (r : Fin 640) (q : Fin 512) :
    (blk m c t (ix2 r q) : EReal) = lgK m c r (⟨512 * t.val + q.val, by have := lt_of_lt_of_eq t.isLt (show cfg0.N = 64 from N_0); omega⟩ : Fin 32768) := by
  refine (acc_apply _ _ _ r q).trans ?_
  unfold lgK logit
  refine Finset.sum_congr rfl fun d _ => ?_
  rw [iblk0_apply, iblk1_apply, iblk2_apply]

/-- A row as a function of every place. -/
abbrev rowK (c : Dev nD) (r : Fin 640) : ℕ → EReal := tab (lgK m c r)

/-- The row's entry at a place of a block. -/
theorem row_blk (c : Dev nD) (t : Fin cfg0.N) (r : Fin 640) (q : Fin 128) (k : ℕ) (hk : k < 4) (p : ℕ) (hp : p = 4 * t.val + k) (o : Fin 512) (ho : o.val = 128 * k + q.val) :
    rowK m c r (p * 128 + q.val) = blk m c t (ix2 r o) := by
  have ht := lt_of_lt_of_eq t.isLt (show cfg0.N = 64 from N_0)
  have hq := q.isLt
  rw [blk_apply]
  refine (tab_lt _ _ (by omega)).trans (congrArg (lgK m c r) (Fin.ext ?_))
  show p * 128 + q.val = 512 * t.val + o.val
  omega

/-- One point carries a lane's scan over the row four entries on. -/
theorem scan_point (c : Dev nD) (r : Fin 640) (q : Fin 128) (t : Fin cfg0.N) (N : ℕ) (hN : N = 4 * t.val)
    (s1 s2 : Vec Ideal S640x128 .f32) (s3 : Vec Ideal S640x128 .i32)
    (hs : ∃ k, Scan (fun p => rowK m c r (p * 128 + q.val)) N (s1 (ix2 r q)) (s2 (ix2 r q)) k ∧ s3 (ix2 r q) = BitVec.ofNat 32 k) :
    ∃ k, Scan (fun p => rowK m c r (p * 128 + q.val)) (N + 4) (st1 (blk m c t) s1 (ix2 r q)) (st2 (blk m c t) s1 s2 (ix2 r q)) k
      ∧ st3 (grid0.coords t) (blk m c t) s1 s3 (ix2 r q) = BitVec.ofNat 32 k :=
  scan_block _ (grid0.coords t) (blk m c t) s1 s2 s3 r q N (by rw [(idx_val t).2.2.2.2.2.2.2, hN])
    (row_blk m c t r q 0 (by omega) N (by omega) _ (by show q.val = _; omega))
    (row_blk m c t r q 1 (by omega) (N + 1) (by omega) _ (by show 128 + q.val = _; omega))
    (row_blk m c t r q 2 (by omega) (N + 2) (by omega) _ (by show 256 + q.val = _; omega))
    (row_blk m c t r q 3 (by omega) (N + 3) (by omega) _ (by show 384 + q.val = _; omega)) hs

/-- The running largest after the next point. -/
theorem state_succ1 (c : Dev nD) (n : ℕ) (hn : n + 1 < cfg0.N) : (state m c (n + 1) hn).1
    = st1 (blk m c ⟨n + 1, hn⟩) (state m c n (Nat.lt_of_succ_lt hn)).1 := rfl
/-- The running second after the next point. -/
theorem state_succ2 (c : Dev nD) (n : ℕ) (hn : n + 1 < cfg0.N) : (state m c (n + 1) hn).2.1
    = st2 (blk m c ⟨n + 1, hn⟩) (state m c n (Nat.lt_of_succ_lt hn)).1 (state m c n (Nat.lt_of_succ_lt hn)).2.1 := rfl
/-- The running place after the next point. -/
theorem state_succ3 (c : Dev nD) (n : ℕ) (hn : n + 1 < cfg0.N) : (state m c (n + 1) hn).2.2
    = st3 (grid0.coords ⟨n + 1, hn⟩) (blk m c ⟨n + 1, hn⟩) (state m c n (Nat.lt_of_succ_lt hn)).1 (state m c n (Nat.lt_of_succ_lt hn)).2.2 := rfl

/-- After point `n` every lane's running values are its scan over the row's entries so far. -/
theorem scan_state (c : Dev nD) (r : Fin 640) (q : Fin 128) : ∀ (n : ℕ) (hn : n < cfg0.N),
    ∃ k, Scan (fun p => rowK m c r (p * 128 + q.val)) (4 * n + 4) ((state m c n hn).1 (ix2 r q)) ((state m c n hn).2.1 (ix2 r q)) k
      ∧ (state m c n hn).2.2 (ix2 r q) = BitVec.ofNat 32 k := by
  intro n
  induction n with
  | zero =>
    intro hn
    have e := state_first m c ⟨0, hn⟩ rfl
    have h := scan_point m c r q ⟨0, hn⟩ 0 rfl (k0_pay9 (F := Ideal)) (k0_pay10 (F := Ideal)) k0_pay11
      ⟨0, by rw [pay9_apply, pay10_apply]; exact Scan.start _, pay11_apply r q⟩
    dsimp only at e
    rw [e]
    exact h
  | succ n ih =>
    intro hn
    have h := scan_point m c r q ⟨n + 1, hn⟩ (4 * n + 4) (Nat.mul_succ 4 n).symm _ _ _ (ih (Nat.lt_of_succ_lt hn))
    rw [state_succ1 m c n hn, state_succ2 m c n hn, state_succ3 m c n hn, Nat.mul_succ 4 n]
    exact h

/-- What the last point leaves of a row: its largest logit, the first place of it, and the largest less the largest of the others. -/
theorem last_row (c : Dev nD) (t : Fin cfg0.N) (ht : t.val = 63) (r : Fin 640) :
    IsTop (rowK m c r) 32768 (k0_pay6 (state m c t.val t.isLt).1 (ix2 (0 : Fin 1) r))
      ∧ ∃ v, IsFirst (rowK m c r) 32768 v ∧ k0_pay7 (state m c t.val t.isLt).1 (state m c t.val t.isLt).2.2 (ix2 (0 : Fin 1) r) = BitVec.ofNat 32 v
        ∧ ∃ s, IsNext (rowK m c r) 32768 v s
          ∧ (k0_pay8 (state m c t.val t.isLt).1 (state m c t.val t.isLt).2.1 (state m c t.val t.isLt).2.2 (ix2 (0 : Fin 1) r) : EReal)
            = (k0_pay6 (state m c t.val t.isLt).1 (ix2 (0 : Fin 1) r) : EReal) - s := by
  refine search (rowK m c r) _ _ _ r fun q => ?_
  have e : 256 = 4 * t.val + 4 := by omega
  rw [e]
  exact scan_state m c r q t.val t.isLt

end Cert.KernelIdeal.Gen

end
-- ==== Proof.KernelRun.lean ====
/- What the kernel leaves: its four result arrays after the grid, and after the reshapes the region ends in. -/
module

public import proofs.«01_k».proof.Proof.RowValue
public import proofs.«01_k».proof.Proof.IdealFrame
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat Window)
open Cert.Top2 Cert.Nibble

variable (m : (ℓ : Loc nD τ sig) → Buf (Elt Ideal) ℓ) (ρ : Dev nD → PrngReg)

/-! ## The arrays after the grid -/

/-- The places array is what the last point wrote. -/
theorem final3 (c : Dev nD) (t : Fin cfg0.N) (ht : t.val = 63) :
    (dats m 0 c).arrAt 3 cfg0.N = k0_pay7 (state m c t.val t.isLt).1 (state m c t.val t.isLt).2.2 := by
  refine (dats m 0 c).arrAt_eq_of_covers 3 _ (by decide +kernel) fun t' hf y => ?_
  have hl := lt_of_lt_of_eq t'.isLt (show cfg0.N = 64 from N_0)
  have hm := (flush0_3 t').mp hf
  obtain rfl : t' = t := Fin.ext (by omega)
  blk_simp
  rw [after0_3]
  refine congrArg _ ?_
  blk_ext [idx_val t']

/-- The margins array is what the last point wrote. -/
theorem final4 (c : Dev nD) (t : Fin cfg0.N) (ht : t.val = 63) :
    (dats m 0 c).arrAt 4 cfg0.N = k0_pay8 (state m c t.val t.isLt).1 (state m c t.val t.isLt).2.1 (state m c t.val t.isLt).2.2 := by
  refine (dats m 0 c).arrAt_eq_of_covers 4 _ (by decide +kernel) fun t' hf y => ?_
  have hl := lt_of_lt_of_eq t'.isLt (show cfg0.N = 64 from N_0)
  have hm := (flush0_4 t').mp hf
  obtain rfl : t' = t := Fin.ext (by omega)
  blk_simp
  rw [after0_4]
  refine congrArg _ ?_
  blk_ext [idx_val t']

/-- The array of largest logits is what the last point wrote. -/
theorem final5 (c : Dev nD) (t : Fin cfg0.N) (ht : t.val = 63) :
    (dats m 0 c).arrAt 5 cfg0.N = k0_pay6 (state m c t.val t.isLt).1 := by
  refine (dats m 0 c).arrAt_eq_of_covers 5 _ (by decide +kernel) fun t' hf y => ?_
  have hl := lt_of_lt_of_eq t'.isLt (show cfg0.N = 64 from N_0)
  have hm := (flush0_5 t').mp hf
  obtain rfl : t' = t := Fin.ext (by omega)
  blk_simp
  rw [after0_5]
  refine congrArg _ ?_
  blk_ext [idx_val t']

/-- The logits as the kernel lays them out: 64 blocks of four rows of 128. -/
def blocked (c : Dev nD) : FVec Ideal S640x64x4x128 .f32 := fun y =>
  tab (lgK m c (y 0)) ((y 1).val * 512 + (y 2).val * 128 + (y 3).val)

/-- A block of the kernel's logits lies where its point puts it. -/
theorem blocked_at (c : Dev nD) (t : Fin cfg0.N) (y : S640x1x4x128.Idx) (z : S640x64x4x128.Idx)
    (e0 : (z 0).val = (y 0).val) (e1 : (z 1).val = t.val) (e2 : (z 2).val = (y 2).val) (e3 : (z 3).val = (y 3).val) :
    lgB (blk m c t) y = blocked m c z := by
  have ht := lt_of_lt_of_eq t.isLt (show cfg0.N = 64 from N_0)
  have h2 : (y 2).val < 4 := (y 2).isLt
  have h3 : (y 3).val < 128 := (y 3).isLt
  refine (blk_apply m c t (y 0) _).trans ?_
  unfold blocked
  rw [e1, e2, e3, show z 0 = y 0 from Fin.ext e0]
  refine Eq.trans ?_ (tab_lt _ _ (by omega)).symm
  refine congrArg (lgK m c (y 0)) (Fin.ext ?_)
  show 512 * t.val + ((y 2).val * 128 + (y 3).val) = t.val * 512 + (y 2).val * 128 + (y 3).val
  omega

/-- The logits array is every point's block. -/
theorem final6 (c : Dev nD) : (dats m 0 c).arrAt 6 cfg0.N = blocked m c := by
  refine (dats m 0 c).arrAt_eq_of_covers 6 _ (by decide +kernel) fun t hf y => ?_
  blk_simp
  rw [after0_6]
  have hy1 : (y 1).val < 1 := (y 1).isLt
  refine blocked_at m c t y _ ?_ ?_ ?_ ?_
  · blk_simp [idx_val t]; try omega
  · blk_simp [idx_val t]; try omega
  · blk_simp [idx_val t]; try omega
  · blk_simp [idx_val t]; try omega

/-! ## The results -/

/-- No two windows stage the same array. -/
theorem arr_inj : Function.Injective (Pipeline.arrRef spec0) := by decide

/-- The places, one a row. -/
theorem W_main_v2 (c : Dev nD) : (Pipeline.afterTail₀ cfgs (dats m) 0 (V0 m) [hostOps1] c main_v2 : Vec Ideal S640x1 .i32)
    = shapeCast S640x1 ((dats m 0 c).arrAt 3 cfg0.N : Vec Ideal S1x640 .i32) shapeCasts_S1x640_S640x1 := by
  unfold Pipeline.afterTail₀
  simp only [List.flatten_cons, List.flatten_nil, List.append_nil]
  after_results
  exact congrArg (fun a : Vec Ideal S1x640 .i32 => shapeCast S640x1 a shapeCasts_S1x640_S640x1)
    (Pipeline.withArrays_arr spec0 arr_inj c (V0 m c) (fun w => (dats m 0 c).arrAt w cfg0.N) 3)

/-- The margins, one a row. -/
theorem W_main_v3 (c : Dev nD) : (Pipeline.afterTail₀ cfgs (dats m) 0 (V0 m) [hostOps1] c main_v3 : Vec Ideal S640x1 .f32)
    = shapeCast S640x1 ((dats m 0 c).arrAt 4 cfg0.N : Vec Ideal S1x640 .f32) shapeCasts_S1x640_S640x1 := by
  unfold Pipeline.afterTail₀
  simp only [List.flatten_cons, List.flatten_nil, List.append_nil]
  after_results
  exact congrArg (fun a : Vec Ideal S1x640 .f32 => shapeCast S640x1 a shapeCasts_S1x640_S640x1)
    (Pipeline.withArrays_arr spec0 arr_inj c (V0 m c) (fun w => (dats m 0 c).arrAt w cfg0.N) 4)

/-- The largest logits, one a row. -/
theorem W_main_v4 (c : Dev nD) : (Pipeline.afterTail₀ cfgs (dats m) 0 (V0 m) [hostOps1] c main_v4 : Vec Ideal S640x1 .f32)
    = shapeCast S640x1 ((dats m 0 c).arrAt 5 cfg0.N : Vec Ideal S1x640 .f32) shapeCasts_S1x640_S640x1 := by
  unfold Pipeline.afterTail₀
  simp only [List.flatten_cons, List.flatten_nil, List.append_nil]
  after_results
  exact congrArg (fun a : Vec Ideal S1x640 .f32 => shapeCast S640x1 a shapeCasts_S1x640_S640x1)
    (Pipeline.withArrays_arr spec0 arr_inj c (V0 m c) (fun w => (dats m 0 c).arrAt w cfg0.N) 5)

/-- The logits, row by row. -/
theorem W_main_v5 (c : Dev nD) : (Pipeline.afterTail₀ cfgs (dats m) 0 (V0 m) [hostOps1] c main_v5 : Vec Ideal S640x1x32768 .f32)
    = shapeCast S640x1x32768 ((dats m 0 c).arrAt 6 cfg0.N : Vec Ideal S640x64x4x128 .f32) shapeCasts_S640x64x4x128_S640x1x32768 := by
  unfold Pipeline.afterTail₀
  simp only [List.flatten_cons, List.flatten_nil, List.append_nil]
  after_results
  exact congrArg (fun a : Vec Ideal S640x64x4x128 .f32 => shapeCast S640x1x32768 a shapeCasts_S640x64x4x128_S640x1x32768)
    (Pipeline.withArrays_arr spec0 arr_inj c (V0 m c) (fun w => (dats m 0 c).arrAt w cfg0.N) 6)

/-- A column of an array of one row, read as a row of an array of one column. -/
theorem column {e : EltTy} (a : Vec Ideal S1x640 e) (r : Fin 640) :
    shapeCast S640x1 a shapeCasts_S1x640_S640x1 (ix2 r (0 : Fin 1)) = a (ix2 (0 : Fin 1) r) := by
  pointwise

/-- The blocks of logits, laid out row by row. -/
theorem row_blocked (c : Dev nD) (r : Fin 640) (v : Fin 32768) :
    shapeCast S640x1x32768 (blocked m c) shapeCasts_S640x64x4x128_S640x1x32768 (ix3 r (0 : Fin 1) v) = lgK m c r v := by
  pointwise
  have hv := v.isLt
  refine (tab_lt (lgK m c r) _ (show v.val / 512 * 512 + v.val / 128 % 4 * 128 + v.val % 128 < 32768 by omega)).trans ?_
  exact congrArg (lgK m c r) (Fin.ext (show v.val / 512 * 512 + v.val / 128 % 4 * 128 + v.val % 128 = v.val by omega))

/-- There is a last point. -/
theorem exists_last : ∃ t : Fin cfg0.N, t.val = 63 := ⟨⟨63, by rw [show cfg0.N = 64 from N_0]; decide⟩, rfl⟩

/-- What the run leaves: of every row the first place of its largest logit, that logit less the largest of the others, the
    logit itself, and the row. -/
structure Leaves (c : Dev nD) (k : Vec Ideal S640x1 .i32) (g t : FVec Ideal S640x1 .f32) (l : FVec Ideal S640x1x32768 .f32) : Prop where
  /-- The largest. -/
  top : ∀ r : Fin 640, IsTop (rowK m c r) 32768 (t (ix2 r (0 : Fin 1)))
  /-- Its first place, and the margin over the others. -/
  first : ∀ r : Fin 640, ∃ v, IsFirst (rowK m c r) 32768 v ∧ k (ix2 r (0 : Fin 1)) = BitVec.ofNat 32 v
    ∧ ∃ s, IsNext (rowK m c r) 32768 v s ∧ (g (ix2 r (0 : Fin 1)) : EReal) = (t (ix2 r (0 : Fin 1)) : EReal) - s
  /-- The row. -/
  row : ∀ (r : Fin 640) (v : Fin 32768), l (ix3 r (0 : Fin 1) v) = lgK m c r v

/-- Columns of what the last point writes are such. -/
theorem leaves_of (c : Dev nD) (k : Vec Ideal S640x1 .i32) (g t : FVec Ideal S640x1 .f32) (l : FVec Ideal S640x1x32768 .f32)
    (k' : Vec Ideal S1x640 .i32) (g' t' : FVec Ideal S1x640 .f32)
    (hk : k = shapeCast S640x1 k' shapeCasts_S1x640_S640x1) (hg : g = shapeCast S640x1 g' shapeCasts_S1x640_S640x1)
    (ht : t = shapeCast S640x1 t' shapeCasts_S1x640_S640x1) (hl : l = shapeCast S640x1x32768 (blocked m c) shapeCasts_S640x64x4x128_S640x1x32768)
    (h : ∀ r : Fin 640, IsTop (rowK m c r) 32768 (t' (ix2 (0 : Fin 1) r))
      ∧ ∃ v, IsFirst (rowK m c r) 32768 v ∧ k' (ix2 (0 : Fin 1) r) = BitVec.ofNat 32 v
        ∧ ∃ s, IsNext (rowK m c r) 32768 v s ∧ (g' (ix2 (0 : Fin 1) r) : EReal) = (t' (ix2 (0 : Fin 1) r) : EReal) - s) :
    Leaves m c k g t l := by
  have ek (r : Fin 640) : k (ix2 r (0 : Fin 1)) = k' (ix2 (0 : Fin 1) r) := by rw [hk]; exact column k' r
  have eg (r : Fin 640) : g (ix2 r (0 : Fin 1)) = g' (ix2 (0 : Fin 1) r) := by rw [hg]; exact column (e := .f32) g' r
  have et (r : Fin 640) : t (ix2 r (0 : Fin 1)) = t' (ix2 (0 : Fin 1) r) := by rw [ht]; exact column (e := .f32) t' r
  refine ⟨fun r => ?_, fun r => ?_, fun r v => ?_⟩
  · rw [et]; exact (h r).1
  · rw [ek, eg, et]; exact (h r).2
  · rw [hl]; exact row_blocked m c r v

/-- The contents after the run are such. -/
theorem leaves (c : Dev nD) : Leaves m c
    (Pipeline.afterTail₀ cfgs (dats m) 0 (V0 m) [hostOps1] c main_v2) (Pipeline.afterTail₀ cfgs (dats m) 0 (V0 m) [hostOps1] c main_v3)
    (Pipeline.afterTail₀ cfgs (dats m) 0 (V0 m) [hostOps1] c main_v4) (Pipeline.afterTail₀ cfgs (dats m) 0 (V0 m) [hostOps1] c main_v5) := by
  obtain ⟨t, ht⟩ := exists_last
  have e2 := W_main_v2 m c
  have e3 := W_main_v3 m c
  have e4 := W_main_v4 m c
  have e5 := W_main_v5 m c
  rw [final3 m c t ht] at e2
  rw [final4 m c t ht] at e3
  rw [final5 m c t ht] at e4
  rw [final6 m c] at e5
  exact leaves_of m c _ _ _ _ _ _ _ e2 e3 e4 e5 fun r => last_row m c t ht r

/-- The run of the kernel: the results as the lines after the grid leave them, the arguments unchanged. -/
theorem run_results : θ_run defs (onTc (τ := τ) (main (F := Ideal))) ⟨m, fun _ => 0, ρ⟩ fun r => ∀ c : Dev nD,
      (r.2.mem ((c.tc : Thread nD τ).loc main_v2) = Pipeline.afterTail₀ cfgs (dats m) 0 (V0 m) [hostOps1] c main_v2
        ∧ r.2.mem ((c.tc : Thread nD τ).loc main_v3) = Pipeline.afterTail₀ cfgs (dats m) 0 (V0 m) [hostOps1] c main_v3
        ∧ r.2.mem ((c.tc : Thread nD τ).loc main_v4) = Pipeline.afterTail₀ cfgs (dats m) 0 (V0 m) [hostOps1] c main_v4
        ∧ r.2.mem ((c.tc : Thread nD τ).loc main_v5) = Pipeline.afterTail₀ cfgs (dats m) 0 (V0 m) [hostOps1] c main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨⟨(h.1 c).2 main_v2 (Pipeline.mem_restRefs_of main_v2 (by decide) (by decide)),
      (h.1 c).2 main_v3 (Pipeline.mem_restRefs_of main_v3 (by decide) (by decide)),
      (h.1 c).2 main_v4 (Pipeline.mem_restRefs_of main_v4 (by decide) (by decide)),
      (h.1 c).2 main_v5 (Pipeline.mem_restRefs_of main_v5 (by decide) (by decide))⟩, h.2 c⟩)
    (θ_run_and (run_main m ρ) (unchanged m ρ))

end Cert.KernelIdeal.Gen

end
-- ==== Proof.RefValue.lean ====
/-
  What the reference's results are: each logit as a sum over the features in their own order, the token as the first place of a
  row's largest logit, and the margin as the largest less the largest of the others.
-/
module

public import proofs.«01_k».proof.Proof.HostRun
public import proofs.«01_k».proof.Proof.Nibble
public import proofs.«01_k».proof.Proof.Top2

@[expose] public section

set_option maxRecDepth 16384

noncomputable section

namespace Cert.ReferenceIdeal.Host

open Cert.ReferenceIdeal Cert.ReferenceIdeal.Gen Cert.Nibble Cert.Top2
open Idealize.ShloMosaic Idealize.ShloMosaic.TcCoe Idealize.SL.Sem

/-! ## The logits -/

/-- A weight at row `d`: place `d / 768` of word `d % 768`, by the scale of the word's group. -/
theorem weights_apply (w : Vec Ideal S768x32768 .i32) (sc : Vec Ideal S48x32768 .bf16) (d : Fin 6144) (v : Fin 32768) :
    (weights w sc (ix2 d v) : EReal)
      = value (w (ix2 (⟨d.val % 768, by omega⟩ : Fin 768) v)) (d.val / 768) * (sc (ix2 (⟨d.val / 16 % 48, by omega⟩ : Fin 48) v) : EReal) := by
  pointwise [weights, codes]
  rw [value_mask _ _ (by omega)]
  have e : d.val / 16 % 48 * 16 + d.val % 16 = d.val % 768 := by omega
  simp only [e]

/-- A regrouped activation. -/
theorem acts_apply (x : Vec Ideal S640x1x6144 .bf16) (r : Fin 640) (d : Fin 6144) :
    (acts x (ix3 r (0 : Fin 1) d) : EReal) = x (ix3 r (0 : Fin 1) (⟨d.val % 768 * 8 + d.val / 768, by omega⟩ : Fin 6144)) := by
  pointwise [acts]

/-- The regrouping of the features: position `p · 768 + q` holds feature `8 q + p`. -/
def regroup : Fin 6144 ≃ Fin 6144 where
  toFun d := ⟨d.val % 768 * 8 + d.val / 768, by omega⟩
  invFun d := ⟨d.val % 8 * 768 + d.val / 8, by omega⟩
  left_inv d := Fin.ext (by show (d.val % 768 * 8 + d.val / 768) % 8 * 768 + (d.val % 768 * 8 + d.val / 768) / 8 = d.val; omega)
  right_inv d := Fin.ext (by show (d.val % 8 * 768 + d.val / 8) % 768 * 8 + (d.val % 8 * 768 + d.val / 8) / 768 = d.val; omega)

/-- The reference's logits are the sums in the features' own order. -/
theorem logits_apply (x : Vec Ideal S640x1x6144 .bf16) (w : Vec Ideal S768x32768 .i32) (sc : Vec Ideal S48x32768 .bf16) (r : Fin 640) (v : Fin 32768) :
    (logits x w sc (ix3 r (0 : Fin 1) v) : EReal)
      = logit (fun r d => x (ix3 r (0 : Fin 1) d)) (fun d v => w (ix2 d v)) (fun g v => sc (ix2 g v)) r v := by
  pointwise [logits]
  unfold logit
  refine (Equiv.sum_comp regroup (fun d : Fin 6144 => (x (ix3 r (0 : Fin 1) d) : EReal)
    * (value (w (ix2 (⟨d.val / 8, by omega⟩ : Fin 768) v)) (d.val % 8) * (sc (ix2 (⟨d.val / 128, by omega⟩ : Fin 48) v) : EReal)))).symm.trans ?_ |>.symm
  refine Finset.sum_congr rfl fun k _ => ?_
  rw [acts_apply, weights_apply]
  have e8 : (regroup k).val / 8 = k.val % 768 := by show (k.val % 768 * 8 + k.val / 768) / 8 = _; omega
  have em : (regroup k).val % 8 = k.val / 768 := by show (k.val % 768 * 8 + k.val / 768) % 8 = _; omega
  have eg : (regroup k).val / 128 = k.val / 16 % 48 := by
    have h : (regroup k).val / 128 = (regroup k).val / 8 / 16 := by omega
    rw [h, e8]
    obtain ⟨k, hk⟩ := k
    show k % 768 / 16 = k / 16 % 48
    omega
  simp only [e8, em, eg]
  rfl

/-! ## The token -/

/-- The first pair is at least as good as the second: larger, or as large and no later. -/
def Better (p q : EReal × BitVec 32) : Prop := q.1 < p.1 ∨ (q.1 = p.1 ∧ p.2.toInt ≤ q.2.toInt)

/-- A pair is as good as itself, -/
theorem Better.refl (p : EReal × BitVec 32) : Better p p := .inr ⟨rfl, le_rfl⟩
/-- and what is better than a better one is better. -/
theorem Better.trans {p q r : EReal × BitVec 32} (h : Better p q) (h' : Better q r) : Better p r := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- The reducer keeps one of its two pairs, and one as good as both. -/
theorem reducer_best (a b : EReal × BitVec 32) :
    (reducer_argmax_f32_i32 (F := Ideal) a b = a ∨ reducer_argmax_f32_i32 (F := Ideal) a b = b)
      ∧ Better (reducer_argmax_f32_i32 (F := Ideal) a b) a ∧ Better (reducer_argmax_f32_i32 (F := Ideal) a b) b := by
  obtain ⟨x, i⟩ := a
  obtain ⟨y, k⟩ := b
  have key : reducer_argmax_f32_i32 (F := Ideal) (x, i) (y, k) = if y < x ∨ (x = y ∧ i.toInt < k.toInt) then (x, i) else (y, k) := by
    simp only [reducer_argmax_f32_i32, Ideal.cmpf_def, Ideal.cmp, Scalar.select, IntOp.ori, IntOp.andi, IntOp.cmpi, BitVec.slt]
    rcases lt_trichotomy x y with h | h | h
    · have h1 : ¬ y < x := not_lt.mpr h.le
      have h2 : x ≠ y := h.ne
      simp [h1, h2]
    · subst h
      by_cases hi : i.toInt < k.toInt
      · simp [hi]
      · simp [hi]
    · have h2 : x ≠ y := h.ne'
      simp [h, h2]
  rw [key]
  by_cases hc : y < x ∨ (x = y ∧ i.toInt < k.toInt)
  · rw [if_pos hc]
    refine ⟨.inl rfl, Better.refl _, ?_⟩
    rcases hc with h | ⟨h, hi⟩
    · exact .inl h
    · exact .inr ⟨h.symm, hi.le⟩
  · rw [if_neg hc]
    refine ⟨.inr rfl, ?_, Better.refl _⟩
    rcases lt_trichotomy x y with h | h | h
    · exact .inl h
    · refine .inr ⟨h, not_lt.mp fun hi => hc (.inr ⟨h, hi⟩)⟩
    · exact absurd (.inl h) hc

/-- So does its fold over a list: it gives a pair of the list, or the first one, that is as good as all. -/
theorem fold_best (L : List (EReal × BitVec 32)) : ∀ p0 : EReal × BitVec 32,
    L.foldl (reducer_argmax_f32_i32 (F := Ideal)) p0 ∈ p0 :: L
      ∧ ∀ q ∈ p0 :: L, Better (L.foldl (reducer_argmax_f32_i32 (F := Ideal)) p0) q := by
  induction L with
  | nil => exact fun p0 => ⟨List.mem_singleton.mpr rfl, fun q hq => by rw [List.mem_singleton.mp hq]; exact Better.refl _⟩
  | cons b L ih =>
    intro p0
    obtain ⟨hm, hb⟩ := ih (reducer_argmax_f32_i32 (F := Ideal) p0 b)
    obtain ⟨hor, h0, h1⟩ := reducer_best p0 b
    rw [List.foldl_cons]
    refine ⟨?_, fun q hq => ?_⟩
    · rcases List.mem_cons.mp hm with h | h
      · rw [h]
        rcases hor with e | e <;> rw [e]
        · exact List.mem_cons_self
        · exact List.mem_cons_of_mem _ List.mem_cons_self
      · exact List.mem_cons_of_mem _ (List.mem_cons_of_mem _ h)
    · rcases List.mem_cons.mp hq with rfl | hq
      · exact (hb _ List.mem_cons_self).trans h0
      · rcases List.mem_cons.mp hq with rfl | hq
        · exact (hb _ List.mem_cons_self).trans h1
        · exact hb _ (List.mem_cons_of_mem _ hq)

/-- The pairs folded at row `r` are the row's logits with their places. -/
theorem mem_fiber (l : FVec Ideal S640x1x32768 .f32) (r : Fin 640) (p : EReal × BitVec 32) :
    p ∈ Host.argReduceFiber l (iotaInDim S640x1x32768 32 2) reducesTo_S640x1x32768_S640x1_d2 (ix2 r (0 : Fin 1))
      ↔ ∃ v : Fin 32768, p = (l (ix3 r (0 : Fin 1) v), BitVec.ofNat 32 v.val) := by
  unfold Host.argReduceFiber
  rw [List.mem_map]
  constructor
  · rintro ⟨n, hn, rfl⟩
    obtain ⟨i, rfl⟩ := S640x1x32768.rowMajor.surjective n
    rw [List.mem_filter] at hn
    have hd := of_decide_eq_true hn.2
    rw [Equiv.symm_apply_apply] at hd ⊢
    have h0 := congrArg Fin.val (congrFun hd 0)
    rw [Shape.ReducesTo.drop_apply_val_of_eq _ i 0 0] at h0
    refine ⟨i 2, ?_⟩
    have hi : i = ix3 r (0 : Fin 1) (i 2) := by
      funext a
      fin_cases a
      · exact Fin.ext h0
      · exact Fin.ext (by have h : (i 1).val < 1 := (i 1).isLt; show (i 1).val = 0; omega)
      · rfl
    exact Prod.ext (congrArg l hi) rfl
  · rintro ⟨v, rfl⟩
    refine ⟨S640x1x32768.rowMajor (ix3 r (0 : Fin 1) v), ?_, ?_⟩
    · rw [List.mem_filter]
      refine ⟨List.mem_finRange _, decide_eq_true ?_⟩
      rw [Equiv.symm_apply_apply]
      funext b
      fin_cases b
      · exact Fin.ext (Shape.ReducesTo.drop_apply_val_of_eq reducesTo_S640x1x32768_S640x1_d2 (ix3 r (0 : Fin 1) v) 0 0)
      · exact Fin.ext (Shape.ReducesTo.drop_apply_val_of_eq reducesTo_S640x1x32768_S640x1_d2 (ix3 r (0 : Fin 1) v) 1 1)
    · rw [Equiv.symm_apply_apply]; rfl

/-- A row's logits, as a function of every place. -/
def rowOf (l : FVec Ideal S640x1x32768 .f32) (r : Fin 640) : ℕ → EReal := tab fun v : Fin 32768 => l (ix3 r (0 : Fin 1) v)

/-- A place's word, read signed, is the place. -/
theorem toInt_place (v : ℕ) (hv : v < 32768) : (BitVec.ofNat 32 v).toInt = (v : ℤ) := by
  rw [BitVec.toInt_eq_toNat_cond, BitVec.toNat_ofNat]
  have h : v % 2 ^ 32 = v := by omega
  rw [h, if_pos (by omega)]

/-- A pair of the row's, or the starting pair, as good as all of the row's is at the first place of the row's largest logit. -/
theorem first_of_best (l : FVec Ideal S640x1x32768 .f32) (r : Fin 640) (p : EReal × BitVec 32)
    (hm : p = ((⊥ : EReal), 0#32) ∨ ∃ v : Fin 32768, p = (l (ix3 r (0 : Fin 1) v), BitVec.ofNat 32 v.val))
    (hall : ∀ u : Fin 32768, Better p (l (ix3 r (0 : Fin 1) u), BitVec.ofNat 32 u.val)) :
    ∃ v, IsFirst (rowOf l r) 32768 v ∧ p.2 = BitVec.ofNat 32 v := by
  have hr : ∀ u (hu : u < 32768), rowOf l r u = l (ix3 r (0 : Fin 1) ⟨u, hu⟩) := fun u hu => tab_lt _ u hu
  have main : ∀ v, v < 32768 → rowOf l r v = p.1 → p.2 = BitVec.ofNat 32 v → IsFirst (rowOf l r) 32768 v := by
    intro v hv e1 e2
    have hu : ∀ u, u < 32768 → rowOf l r u < rowOf l r v ∨ (rowOf l r u = rowOf l r v ∧ v ≤ u) := by
      intro u hu
      rw [e1, hr u hu]
      rcases hall ⟨u, hu⟩ with h | ⟨h, hle⟩
      · exact .inl h
      · refine .inr ⟨h, ?_⟩
        rw [e2, toInt_place v hv, toInt_place u hu] at hle
        exact_mod_cast hle
    refine ⟨hv, fun u h => (hu u h).elim le_of_lt fun e => e.1.le, fun u h => ?_⟩
    rcases hu u (h.trans hv) with h' | ⟨_, h'⟩
    · exact h'
    · omega
  rcases hm with rfl | ⟨v, rfl⟩
  · have h0 : (0 : ℕ) < 32768 := by norm_num
    refine ⟨0, main 0 h0 ?_ rfl, rfl⟩
    rw [hr 0 h0]
    rcases hall ⟨0, h0⟩ with h | ⟨h, _⟩
    · exact absurd h not_lt_bot
    · exact h
  · exact ⟨v.val, main v.val v.isLt (hr v.val v.isLt) rfl, rfl⟩

/-- The second part of a fold of pairs is that of the fold over the list of pairs. -/
theorem snd_fold {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t) (hu : 0 < u.numel) (j : t.Idx) :
    (Host.argReduce f x y ix iy h hu j).2 = ((Host.argReduceFiber x y h j).foldl f (ix (Shape.Idx.first hu), iy (Shape.Idx.first hu))).2 := by
  rw [Ideal.argReduce_eq_reduce2, Host.reduce2_eq_foldl_fiber]

/-- The token is the second part of a fold of pairs, at any float unit. -/
theorem token_unfold {F : FTy → Type} [FloatOps F] (l : FVec F S640x1x32768 .f32) : token l = fun j =>
    (Host.argReduce reducer_argmax_f32_i32 l (iotaInDim S640x1x32768 32 2) (constant S_ .f32 0xFF800000#32) (constantI S_ 32 0#32)
      reducesTo_S640x1x32768_S640x1_d2 h_S_ j).2 := by
  delta token
  with_reducible rfl

/-- The token is the place of the pair folded out of the row's pairs. -/
theorem token_fold (l : FVec Ideal S640x1x32768 .f32) : token l = fun j =>
    ((Host.argReduceFiber l (iotaInDim S640x1x32768 32 2) reducesTo_S640x1x32768_S640x1_d2 j).foldl
      (reducer_argmax_f32_i32 (F := Ideal)) ((constant S_ .f32 0xFF800000#32 : FVec Ideal S_ .f32) (Shape.Idx.first h_S_), constantI S_ 32 0#32 (Shape.Idx.first h_S_))).2 :=
  (token_unfold l).trans (funext fun j => snd_fold _ _ _ _ _ _ _ j)

/-- The pair the fold starts from. -/
theorem start_eq : ((constant S_ .f32 0xFF800000#32 : FVec Ideal S_ .f32) (Shape.Idx.first h_S_), constantI S_ 32 0#32 (Shape.Idx.first h_S_))
      = ((⊥ : EReal), 0#32) := Prod.ext ofBits_bot rfl

/-- The token is the first place of the row's largest logit. -/
theorem token_first (l : FVec Ideal S640x1x32768 .f32) (r : Fin 640) :
    ∃ v, IsFirst (rowOf l r) 32768 v ∧ token l (ix2 r (0 : Fin 1)) = BitVec.ofNat 32 v := by
  rw [token_fold]
  have hb := fold_best (Host.argReduceFiber l (iotaInDim S640x1x32768 32 2) reducesTo_S640x1x32768_S640x1_d2 (ix2 r (0 : Fin 1)))
    ((constant S_ .f32 0xFF800000#32 : FVec Ideal S_ .f32) (Shape.Idx.first h_S_), constantI S_ 32 0#32 (Shape.Idx.first h_S_))
  refine first_of_best l r _ ?_ fun u => hb.2 _ (List.mem_cons_of_mem _ ((mem_fiber l r _).mpr ⟨u, rfl⟩))
  rcases List.mem_cons.mp hb.1 with h | h
  · exact .inl (h.trans start_eq)
  · exact .inr ((mem_fiber l r _).mp h)

/-! ## The largest logit and the margin -/

/-- The largest logit is the row's largest entry. -/
theorem top_isTop (l : FVec Ideal S640x1x32768 .f32) (r : Fin 640) : IsTop (rowOf l r) 32768 (top l (ix2 r (0 : Fin 1))) := by
  have e : (top l (ix2 r (0 : Fin 1)) : EReal) = Finset.univ.fold max ⊥ fun v : Fin 32768 => (l (ix3 r (0 : Fin 1) v) : EReal) := by
    pointwise [top]
    rw [ofBits_bot]
  rw [e]
  exact isTop_fold _

/-- The logits with one left out. -/
theorem others_row (l : FVec Ideal S640x1x32768 .f32) (k : Vec Ideal S640x1 .i32) (r : Fin 640) (v : ℕ) (hv : v < 32768)
    (hk : k (ix2 r (0 : Fin 1)) = BitVec.ofNat 32 v) (u : ℕ) (hu : u < 32768) :
    rowOf (others l k) r u = if u = v then ⊥ else rowOf l r u := by
  unfold rowOf
  rw [tab_lt _ u hu, tab_lt _ u hu]
  pointwise [others]
  rw [ofBits_bot, hk]
  by_cases h : u = v
  · subst h; rw [if_pos rfl]; simp [IntOp.cmpi, Scalar.select]
  · have hne : BitVec.ofNat 32 u ≠ BitVec.ofNat 32 v := fun e => h (by
      have := congrArg BitVec.toNat e
      rw [BitVec.toNat_ofNat, BitVec.toNat_ofNat] at this
      omega)
    rw [if_neg h]
    simp only [IntOp.cmpi, Scalar.select, beq_eq_false_iff_ne.mpr hne]
    rfl

/-- The largest of those is the largest of the others. -/
theorem others_next (l : FVec Ideal S640x1x32768 .f32) (k : Vec Ideal S640x1 .i32) (r : Fin 640) (v : ℕ) (hv : v < 32768)
    (hk : k (ix2 r (0 : Fin 1)) = BitVec.ofNat 32 v) : IsNext (rowOf l r) 32768 v (top (others l k) (ix2 r (0 : Fin 1))) := by
  refine (top_isTop (others l k) r).isNext ?_ fun u hu hne => ?_
  · rw [others_row l k r v hv hk v hv, if_pos rfl]
  · rw [others_row l k r v hv hk u hu, if_neg hne]

/-- The margin is the largest logit less the largest of the others, -/
theorem margin_unfold (l : FVec Ideal S640x1x32768 .f32) : margin l = subf (top l) (top (others l (token l))) := by
  unfold margin
  with_reducible rfl
/-- at each row. -/
theorem margin_apply (l : FVec Ideal S640x1x32768 .f32) (j : S640x1.Idx) :
    margin l j = FloatOps.subf (top l j) (top (others l (token l)) j) := (congrFun (margin_unfold l) j).trans (subf_apply _ _ j)

end Cert.ReferenceIdeal.Host

end
-- ==== Proof.Compare.lean ====
/- The kernel's results are the reference's: a row's largest entry, its first place and the largest of the others are each one value. -/
module

public import proofs.«01_k».proof.Defs
public import proofs.«01_k».proof.Proof.KernelRun
public import proofs.«01_k».proof.Proof.RefValue

@[expose] public section

set_option maxRecDepth 16384

noncomputable section

namespace Cert.Compare

open Idealize.ShloMosaic Idealize.ShloMosaic.TcCoe Idealize.ShloMosaic.Tactic Idealize.SL.Sem
open Cert.Top2 Cert.Nibble
open Cert.ReferenceIdeal.Host (rowOf token top margin others logits)

/-- Two columns alike in every row are the same. -/
theorem column_ext {α : Type} (a b : (⟨2, ![640, 1]⟩ : Shape).Idx → α) (h : ∀ r : Fin 640, a (ix2 r (0 : Fin 1)) = b (ix2 r (0 : Fin 1))) : a = b := by
  funext j
  have e : j = ix2 (j 0 : Fin 640) (0 : Fin 1) := by
    funext x
    match x with
    | 0 => rfl
    | 1 => exact Fin.ext (by have h : (j 1).val < 1 := (j 1).isLt; show (j 1).val = 0; omega)
  rw [e]
  exact h (j 0)

/-- Two arrays of rows alike in every entry are the same. -/
theorem row_ext {α : Type} (a b : (⟨3, ![640, 1, 32768]⟩ : Shape).Idx → α)
    (h : ∀ (r : Fin 640) (v : Fin 32768), a (ix3 r (0 : Fin 1) v) = b (ix3 r (0 : Fin 1) v)) : a = b := by
  funext j
  have e : j = ix3 (j 0 : Fin 640) (0 : Fin 1) (j 2 : Fin 32768) := by
    funext x
    match x with
    | 0 => rfl
    | 1 => exact Fin.ext (by have h : (j 1).val < 1 := (j 1).isLt; show (j 1).val = 0; omega)
    | 2 => rfl
  rw [e]
  exact h (j 0) (j 2)

section
variable (m : (ℓ : Loc KernelIdeal.nD KernelIdeal.τ KernelIdeal.sig) → Buf (Elt Ideal) ℓ) (c : Dev KernelIdeal.nD)
  (k : Vec Ideal ReferenceIdeal.S640x1 .i32) (g t : FVec Ideal ReferenceIdeal.S640x1 .f32) (l L : FVec Ideal ReferenceIdeal.S640x1x32768 .f32)
  (h : KernelIdeal.Gen.Leaves m c k g t l) (hL : ∀ (r : Fin 640) (v : Fin 32768), L (ix3 r (0 : Fin 1) v) = KernelIdeal.Gen.lgK m c r v)
include h hL

/-- The rows are the same rows, -/
theorem row_eq (r : Fin 640) : rowOf L r = KernelIdeal.Gen.rowK m c r := by
  unfold rowOf KernelIdeal.Gen.rowK
  exact congrArg tab (funext fun v => hL r v)

/-- so the tokens are the same, -/
theorem token_eq : k = token L := by
  refine column_ext _ _ fun r => ?_
  obtain ⟨v, hv, ek, _⟩ := h.first r
  obtain ⟨v', hv', ek'⟩ := ReferenceIdeal.Host.token_first L r
  rw [row_eq m c k g t l L h hL r] at hv'
  rw [ek, hv.unique hv']
  exact ek'.symm

/-- the largest logits are the same, -/
theorem top_eq : t = top L := by
  refine column_ext _ _ fun r => ?_
  have e := ReferenceIdeal.Host.top_isTop L r
  rw [row_eq m c k g t l L h hL r] at e
  exact (h.top r).unique e

/-- the margins are the same -/
theorem margin_eq : g = margin L := by
  refine column_ext _ _ fun r => ?_
  obtain ⟨v, hv, ek, s, hs, eg⟩ := h.first r
  have hk : token L (ix2 r (0 : Fin 1)) = BitVec.ofNat 32 v := by rw [← token_eq m c k g t l L h hL]; exact ek
  have e := ReferenceIdeal.Host.others_next L (token L) r v hv.1 hk
  rw [row_eq m c k g t l L h hL r] at e
  rw [ReferenceIdeal.Host.margin_apply, ← top_eq m c k g t l L h hL, ← hs.unique e]
  exact eg

/-- and the logits are the same. -/
theorem logits_eq : l = L := row_ext _ _ fun r v => (h.row r v).trans (hL r v).symm

end

/-- The reference's logits are the kernel's, from equal arguments. -/
theorem logits_same (m : (ℓ : Loc KernelIdeal.nD KernelIdeal.τ KernelIdeal.sig) → Buf (Elt Ideal) ℓ) (c : Dev KernelIdeal.nD)
    (x : Vec Ideal ReferenceIdeal.S640x1x6144 .bf16) (w : Vec Ideal ReferenceIdeal.S768x32768 .i32) (sc : Vec Ideal ReferenceIdeal.S48x32768 .bf16)
    (hx : x = KernelIdeal.Gen.argX m c) (hw : w = KernelIdeal.Gen.argW m c) (hs : sc = KernelIdeal.Gen.argS m c) (r : Fin 640) (v : Fin 32768) :
    logits x w sc (ix3 r (0 : Fin 1) v) = KernelIdeal.Gen.lgK m c r v := by
  subst hx hw hs
  exact ReferenceIdeal.Host.logits_apply _ _ _ r v

/-- From equal arguments both programs run to equal results, and leave the arguments unchanged. -/
theorem algebraic : Cert.algebraic_KernelIdeal_ReferenceIdeal := by
  intro m g m' g' _ hm
  have hL (c : Dev KernelIdeal.nD) := logits_same m c _ _ _ (hm c).1 (hm c).2.1 (hm c).2.2
  have hl (c : Dev KernelIdeal.nD) := KernelIdeal.Gen.leaves m c
  refine ⟨fun c => token (ReferenceIdeal.Host.lg m' c), fun c => margin (ReferenceIdeal.Host.lg m' c), fun c => top (ReferenceIdeal.Host.lg m' c),
    fun c => ReferenceIdeal.Host.lg m' c, ?_, ?_⟩
  · refine (θ_run _ _ _).mono (fun r h c => ?_) (KernelIdeal.Gen.run_results m g)
    obtain ⟨⟨h2, h3, h4, h5⟩, ha⟩ := h c
    exact ⟨h2.trans (token_eq m c _ _ _ _ _ (hl c) (hL c)), h3.trans (margin_eq m c _ _ _ _ _ (hl c) (hL c)),
      h4.trans (top_eq m c _ _ _ _ _ (hl c) (hL c)), h5.trans (logits_eq m c _ _ _ _ _ (hl c) (hL c)), ha⟩
  · refine (θ_run _ _ _).mono (fun r h c => ?_) (ReferenceIdeal.Host.run_main m' g')
    obtain ⟨⟨h0, h1, h2, h3⟩, ha⟩ := h c
    exact ⟨h0, h1, h2, h3, ha⟩

end Cert.Compare

end
-- ==== Proof.lean ====
module

public import proofs.«01_k».proof.Defs
public import proofs.«01_k».proof.Proof.BitsFrame
public import proofs.«01_k».proof.Proof.IdealFrame
public import proofs.«01_k».proof.Proof.HostRun
public import proofs.«01_k».proof.Proof.Compare

@[expose] public section

noncomputable section

namespace Cert.Proof

open Idealize.ShloMosaic Idealize.SL.Sem

/-- Every claim holds. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => Cert.ReferenceIdeal.Host.frame m g,
  trivial, Cert.Compare.algebraic⟩

end Cert.Proof

end
